-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x768 : Shape := ⟨3, ![2, 1024, 768]⟩
abbrev S32000x768 : Shape := ⟨2, ![32000, 768]⟩
abbrev S1025x768 : Shape := ⟨2, ![1025, 768]⟩
abbrev S12x768x768 : Shape := ⟨3, ![12, 768, 768]⟩
abbrev S12x1x1 : Shape := ⟨3, ![12, 1, 1]⟩
abbrev S1x1x1 : Shape := ⟨3, ![1, 1, 1]⟩
abbrev S_ : Shape := ⟨0, ![]⟩

class Facts : Prop where
  bcast_S_S2x1024x768 : S_.BroadcastsInDim S2x1024x768 (![] : Fin 0 → Fin S2x1024x768.rank)
  reducesTo_S2x1024x768_S_d0_1_2 : S2x1024x768.ReducesTo [0, 1, 2] S_
  h_S_ : 0 < S_.numel
  bcast_S_S32000x768 : S_.BroadcastsInDim S32000x768 (![] : Fin 0 → Fin S32000x768.rank)
  reducesTo_S32000x768_S_d0_1 : S32000x768.ReducesTo [0, 1] S_
  bcast_S_S1025x768 : S_.BroadcastsInDim S1025x768 (![] : Fin 0 → Fin S1025x768.rank)
  reducesTo_S1025x768_S_d0_1 : S1025x768.ReducesTo [0, 1] S_
  bcast_S_S12x768x768 : S_.BroadcastsInDim S12x768x768 (![] : Fin 0 → Fin S12x768x768.rank)
  reducesTo_S12x768x768_S_d0_1_2 : S12x768x768.ReducesTo [0, 1, 2] S_
  bcast_S_S12x1x1 : S_.BroadcastsInDim S12x1x1 (![] : Fin 0 → Fin S12x1x1.rank)
  reducesTo_S12x1x1_S_d0_1_2 : S12x1x1.ReducesTo [0, 1, 2] S_
  bcast_S_S1x1x1 : S_.BroadcastsInDim S1x1x1 (![] : Fin 0 → Fin S1x1x1.rank)
  reducesTo_S1x1x1_S_d0_1_2 : S1x1x1.ReducesTo [0, 1, 2] S_

variable [Facts]

def fn_part2 {F : FTy → Type} [FloatOps F] (main_arg7 : FVec F S1x1x1 .f32) (main_v29 : IVec S_ 1) (main_v32 : IVec S12x1x1 1) (main_c_12 : IVec S_ 1) : IVec S_ 1 :=
  let main_v33 : IVec S_ 1 := (fun x v => Host.reduce IntOp.andi x v reducesTo_S12x1x1_S_d0_1_2 h_S_) main_v32 main_c_12
  let main_v34 : IVec S_ 1 := andi main_v29 main_v33
  let main_v35 : FVec F S1x1x1 .f32 := Host.absf main_arg7
  let main_cst_13 : FVec F S_ .f32 := constant S_ .f32 0x7F7FFFFF#32
  let main_v36 : FVec F S1x1x1 .f32 := broadcastInDim S1x1x1 ![] bcast_S_S1x1x1 main_cst_13
  let main_v37 : IVec S1x1x1 1 := cmpf .ole main_v35 main_v36
  let main_c_14 : IVec S_ 1 := constantI S_ 1 1#1
  let main_v38 : IVec S_ 1 := (fun x v => Host.reduce IntOp.andi x v reducesTo_S1x1x1_S_d0_1_2 h_S_) main_v37 main_c_14
  let main_v39 : IVec S_ 1 := andi main_v34 main_v38
  main_v39

def fn_part1 {F : FTy → Type} [FloatOps F] (main_arg4 : FVec F S12x768x768 .f32) (main_arg5 : FVec F S12x768x768 .f32) (main_arg6 : FVec F S12x1x1 .f32) (main_arg7 : FVec F S1x1x1 .f32) (main_v14 : IVec S_ 1) (main_v15 : FVec F S12x768x768 .f32) (main_cst_5 : FVec F S_ .f32) : IVec S_ 1 :=
  let main_v16 : FVec F S12x768x768 .f32 := broadcastInDim S12x768x768 ![] bcast_S_S12x768x768 main_cst_5
  let main_v17 : IVec S12x768x768 1 := cmpf .ole main_v15 main_v16
  let main_c_6 : IVec S_ 1 := constantI S_ 1 1#1
  let main_v18 : IVec S_ 1 := (fun x v => Host.reduce IntOp.andi x v reducesTo_S12x768x768_S_d0_1_2 h_S_) main_v17 main_c_6
  let main_v19 : IVec S_ 1 := andi main_v14 main_v18
  let main_v20 : FVec F S12x768x768 .f32 := Host.absf main_arg4
  let main_cst_7 : FVec F S_ .f32 := constant S_ .f32 0x7F7FFFFF#32
  let main_v21 : FVec F S12x768x768 .f32 := broadcastInDim S12x768x768 ![] bcast_S_S12x768x768 main_cst_7
  let main_v22 : IVec S12x768x768 1 := cmpf .ole main_v20 main_v21
  let main_c_8 : IVec S_ 1 := constantI S_ 1 1#1
  let main_v23 : IVec S_ 1 := (fun x v => Host.reduce IntOp.andi x v reducesTo_S12x768x768_S_d0_1_2 h_S_) main_v22 main_c_8
  let main_v24 : IVec S_ 1 := andi main_v19 main_v23
  let main_v25 : FVec F S12x768x768 .f32 := Host.absf main_arg5
  let main_cst_9 : FVec F S_ .f32 := constant S_ .f32 0x7F7FFFFF#32
  let main_v26 : FVec F S12x768x768 .f32 := broadcastInDim S12x768x768 ![] bcast_S_S12x768x768 main_cst_9
  let main_v27 : IVec S12x768x768 1 := cmpf .ole main_v25 main_v26
  let main_c_10 : IVec S_ 1 := constantI S_ 1 1#1
  let main_v28 : IVec S_ 1 := (fun x v => Host.reduce IntOp.andi x v reducesTo_S12x768x768_S_d0_1_2 h_S_) main_v27 main_c_10
  let main_v29 : IVec S_ 1 := andi main_v24 main_v28
  let main_v30 : FVec F S12x1x1 .f32 := Host.absf main_arg6
  let main_cst_11 : FVec F S_ .f32 := constant S_ .f32 0x7F7FFFFF#32
  let main_v31 : FVec F S12x1x1 .f32 := broadcastInDim S12x1x1 ![] bcast_S_S12x1x1 main_cst_11
  let main_v32 : IVec S12x1x1 1 := cmpf .ole main_v30 main_v31
  let main_c_12 : IVec S_ 1 := constantI S_ 1 1#1
  fn_part2 (F := F) main_arg7 main_v29 main_v32 main_c_12

def fn {F : FTy → Type} [FloatOps F] (main_arg0 : FVec F S2x1024x768 .f32) (main_arg1 : FVec F S32000x768 .f32) (main_arg2 : FVec F S1025x768 .f32) (main_arg3 : FVec F S12x768x768 .f32) (main_arg4 : FVec F S12x768x768 .f32) (main_arg5 : FVec F S12x768x768 .f32) (main_arg6 : FVec F S12x1x1 .f32) (main_arg7 : FVec F S1x1x1 .f32) : IVec S_ 1 :=
  let main_v0 : FVec F S2x1024x768 .f32 := Host.absf main_arg0
  let main_cst : FVec F S_ .f32 := constant S_ .f32 0x7F7FFFFF#32
  let main_v1 : FVec F S2x1024x768 .f32 := broadcastInDim S2x1024x768 ![] bcast_S_S2x1024x768 main_cst
  let main_v2 : IVec S2x1024x768 1 := cmpf .ole main_v0 main_v1
  let main_c : IVec S_ 1 := constantI S_ 1 1#1
  let main_v3 : IVec S_ 1 := (fun x v => Host.reduce IntOp.andi x v reducesTo_S2x1024x768_S_d0_1_2 h_S_) main_v2 main_c
  let main_c_0 : IVec S_ 1 := constantI S_ 1 1#1
  let main_v4 : IVec S_ 1 := andi main_c_0 main_v3
  let main_v5 : FVec F S32000x768 .f32 := Host.absf main_arg1
  let main_cst_1 : FVec F S_ .f32 := constant S_ .f32 0x7F7FFFFF#32
  let main_v6 : FVec F S32000x768 .f32 := broadcastInDim S32000x768 ![] bcast_S_S32000x768 main_cst_1
  let main_v7 : IVec S32000x768 1 := cmpf .ole main_v5 main_v6
  let main_c_2 : IVec S_ 1 := constantI S_ 1 1#1
  let main_v8 : IVec S_ 1 := (fun x v => Host.reduce IntOp.andi x v reducesTo_S32000x768_S_d0_1 h_S_) main_v7 main_c_2
  let main_v9 : IVec S_ 1 := andi main_v4 main_v8
  let main_v10 : FVec F S1025x768 .f32 := Host.absf main_arg2
  let main_cst_3 : FVec F S_ .f32 := constant S_ .f32 0x7F7FFFFF#32
  let main_v11 : FVec F S1025x768 .f32 := broadcastInDim S1025x768 ![] bcast_S_S1025x768 main_cst_3
  let main_v12 : IVec S1025x768 1 := cmpf .ole main_v10 main_v11
  let main_c_4 : IVec S_ 1 := constantI S_ 1 1#1
  let main_v13 : IVec S_ 1 := (fun x v => Host.reduce IntOp.andi x v reducesTo_S1025x768_S_d0_1 h_S_) main_v12 main_c_4
  let main_v14 : IVec S_ 1 := andi main_v9 main_v13
  let main_v15 : FVec F S12x768x768 .f32 := Host.absf main_arg3
  let main_cst_5 : FVec F S_ .f32 := constant S_ .f32 0x7F7FFFFF#32
  fn_part1 (F := F) main_arg4 main_arg5 main_arg6 main_arg7 main_v14 main_v15 main_cst_5
-- ==== Kernel.lean ====
abbrev S2x1024x768 : Shape := ⟨3, ![2, 1024, 768]⟩
abbrev S32000x768 : Shape := ⟨2, ![32000, 768]⟩
abbrev S1025x768 : Shape := ⟨2, ![1025, 768]⟩
abbrev S12x768x768 : Shape := ⟨3, ![12, 768, 768]⟩
abbrev S12x1x1 : Shape := ⟨3, ![12, 1, 1]⟩
abbrev S1x1x1 : Shape := ⟨3, ![1, 1, 1]⟩
abbrev S1x12 : Shape := ⟨2, ![1, 12]⟩
abbrev S1x1 : Shape := ⟨2, ![1, 1]⟩
abbrev S12x1025x1024 : Shape := ⟨3, ![12, 1025, 1024]⟩
abbrev S2x768x768 : Shape := ⟨3, ![2, 768, 768]⟩
abbrev S2x1025x1024 : Shape := ⟨3, ![2, 1025, 1024]⟩
abbrev S1024x768 : Shape := ⟨2, ![1024, 768]⟩
abbrev S1x768x768 : Shape := ⟨3, ![1, 768, 768]⟩
abbrev S768x768 : Shape := ⟨2, ![768, 768]⟩
abbrev S1025x1024 : Shape := ⟨2, ![1025, 1024]⟩
abbrev S1x1025x1024 : Shape := ⟨3, ![1, 1025, 1024]⟩
abbrev S_ : Shape := ⟨0, ![]⟩
abbrev S2x1025x768 : Shape := ⟨3, ![2, 1025, 768]⟩
abbrev S1x1025x768 : Shape := ⟨3, ![1, 1025, 768]⟩
abbrev S1280x768 : Shape := ⟨2, ![1280, 768]⟩
abbrev S1x1024x768 : Shape := ⟨3, ![1, 1024, 768]⟩
abbrev S1024x128 : Shape := ⟨2, ![1024, 128]⟩
abbrev S1024x1280 : Shape := ⟨2, ![1024, 1280]⟩
abbrev S1024 : Shape := ⟨1, ![1024]⟩
abbrev S1024x1 : Shape := ⟨2, ![1024, 1]⟩
abbrev S768 : Shape := ⟨1, ![768]⟩
abbrev S1x768 : Shape := ⟨2, ![1, 768]⟩
abbrev S2x1x768 : Shape := ⟨3, ![2, 1, 768]⟩
abbrev S2x768 : Shape := ⟨2, ![2, 768]⟩
abbrev S8x768 : Shape := ⟨2, ![8, 768]⟩
abbrev S8x32000 : Shape := ⟨2, ![8, 32000]⟩
abbrev S3200x768 : Shape := ⟨2, ![3200, 768]⟩
abbrev S8x3200 : Shape := ⟨2, ![8, 3200]⟩
abbrev S2x32000 : Shape := ⟨2, ![2, 32000]⟩

abbrev nBuf : Space → Nat
  | .hbm => 32
  | .vmem => 138
  | .smem => 12
  | _ => 0

abbrev vmemTy0_0 (i : Nat) : BufTy := match i % 128 with
  | 0 => ⟨S1025x768, .f32⟩
  | 1 => ⟨S2x768x768, .f32⟩
  | 2 => ⟨S2x768x768, .f32⟩
  | 3 => ⟨S2x768x768, .f32⟩
  | 4 => ⟨S2x768x768, .f32⟩
  | 5 => ⟨S2x1025x1024, .f32⟩
  | 6 => ⟨S2x1025x1024, .f32⟩
  | 7 => ⟨S1x1025x768, .f32⟩
  | 8 => ⟨S1x1025x768, .f32⟩
  | 9 => ⟨S1280x768, .f32⟩
  | 10 => ⟨S1280x768, .f32⟩
  | 11 => ⟨S1x1024x768, .f32⟩
  | 12 => ⟨S1x1024x768, .f32⟩
  | 13 => ⟨S1x1024x768, .f32⟩
  | 14 => ⟨S1x1024x768, .f32⟩
  | 15 => ⟨S1024x768, .f32⟩
  | 16 => ⟨S1024x128, .f32⟩
  | 17 => ⟨S1x1024x768, .f32⟩
  | 18 => ⟨S1x1024x768, .f32⟩
  | 19 => ⟨S1x1025x1024, .f32⟩
  | 20 => ⟨S1x1025x1024, .f32⟩
  | 21 => ⟨S1x768x768, .f32⟩
  | 22 => ⟨S1x768x768, .f32⟩
  | 23 => ⟨S1x1025x768, .f32⟩
  | 24 => ⟨S1x1025x768, .f32⟩
  | 25 => ⟨S1x1025x768, .f32⟩
  | 26 => ⟨S1x1025x768, .f32⟩
  | 27 => ⟨S1025x768, .f32⟩
  | 28 => ⟨S1x1025x768, .f32⟩
  | 29 => ⟨S1x1025x768, .f32⟩
  | 30 => ⟨S1280x768, .f32⟩
  | 31 => ⟨S1280x768, .f32⟩
  | 32 => ⟨S1x1024x768, .f32⟩
  | 33 => ⟨S1x1024x768, .f32⟩
  | 34 => ⟨S1x1024x768, .f32⟩
  | 35 => ⟨S1x1024x768, .f32⟩
  | 36 => ⟨S1024x768, .f32⟩
  | 37 => ⟨S1024x128, .f32⟩
  | 38 => ⟨S1x1024x768, .f32⟩
  | 39 => ⟨S1x1024x768, .f32⟩
  | 40 => ⟨S1x1025x1024, .f32⟩
  | 41 => ⟨S1x1025x1024, .f32⟩
  | 42 => ⟨S1x768x768, .f32⟩
  | 43 => ⟨S1x768x768, .f32⟩
  | 44 => ⟨S1x1025x768, .f32⟩
  | 45 => ⟨S1x1025x768, .f32⟩
  | 46 => ⟨S1x1025x768, .f32⟩
  | 47 => ⟨S1x1025x768, .f32⟩
  | 48 => ⟨S1025x768, .f32⟩
  | 49 => ⟨S1x1025x768, .f32⟩
  | 50 => ⟨S1x1025x768, .f32⟩
  | 51 => ⟨S1280x768, .f32⟩
  | 52 => ⟨S1280x768, .f32⟩
  | 53 => ⟨S1x1024x768, .f32⟩
  | 54 => ⟨S1x1024x768, .f32⟩
  | 55 => ⟨S1x1024x768, .f32⟩
  | 56 => ⟨S1x1024x768, .f32⟩
  | 57 => ⟨S1024x768, .f32⟩
  | 58 => ⟨S1024x128, .f32⟩
  | 59 => ⟨S1x1024x768, .f32⟩
  | 60 => ⟨S1x1024x768, .f32⟩
  | 61 => ⟨S1x1025x1024, .f32⟩
  | 62 => ⟨S1x1025x1024, .f32⟩
  | 63 => ⟨S1x768x768, .f32⟩
  | 64 => ⟨S1x768x768, .f32⟩
  | 65 => ⟨S1x1025x768, .f32⟩
  | 66 => ⟨S1x1025x768, .f32⟩
  | 67 => ⟨S1x1025x768, .f32⟩
  | 68 => ⟨S1x1025x768, .f32⟩
  | 69 => ⟨S1025x768, .f32⟩
  | 70 => ⟨S1x1025x768, .f32⟩
  | 71 => ⟨S1x1025x768, .f32⟩
  | 72 => ⟨S1280x768, .f32⟩
  | 73 => ⟨S1280x768, .f32⟩
  | 74 => ⟨S1x1024x768, .f32⟩
  | 75 => ⟨S1x1024x768, .f32⟩
  | 76 => ⟨S1x1024x768, .f32⟩
  | 77 => ⟨S1x1024x768, .f32⟩
  | 78 => ⟨S1024x768, .f32⟩
  | 79 => ⟨S1024x128, .f32⟩
  | 80 => ⟨S1x1024x768, .f32⟩
  | 81 => ⟨S1x1024x768, .f32⟩
  | 82 => ⟨S1x1025x1024, .f32⟩
  | 83 => ⟨S1x1025x1024, .f32⟩
  | 84 => ⟨S1x768x768, .f32⟩
  | 85 => ⟨S1x768x768, .f32⟩
  | 86 => ⟨S1x1025x768, .f32⟩
  | 87 => ⟨S1x1025x768, .f32⟩
  | 88 => ⟨S1x1025x768, .f32⟩
  | 89 => ⟨S1x1025x768, .f32⟩
  | 90 => ⟨S1025x768, .f32⟩
  | 91 => ⟨S1x1025x768, .f32⟩
  | 92 => ⟨S1x1025x768, .f32⟩
  | 93 => ⟨S1280x768, .f32⟩
  | 94 => ⟨S1280x768, .f32⟩
  | 95 => ⟨S1x1024x768, .f32⟩
  | 96 => ⟨S1x1024x768, .f32⟩
  | 97 => ⟨S1x1024x768, .f32⟩
  | 98 => ⟨S1x1024x768, .f32⟩
  | 99 => ⟨S1024x768, .f32⟩
  | 100 => ⟨S1024x128, .f32⟩
  | 101 => ⟨S1x1024x768, .f32⟩
  | 102 => ⟨S1x1024x768, .f32⟩
  | 103 => ⟨S1x1025x1024, .f32⟩
  | 104 => ⟨S1x1025x1024, .f32⟩
  | 105 => ⟨S1x768x768, .f32⟩
  | 106 => ⟨S1x768x768, .f32⟩
  | 107 => ⟨S1x1025x768, .f32⟩
  | 108 => ⟨S1x1025x768, .f32⟩
  | 109 => ⟨S1x1025x768, .f32⟩
  | 110 => ⟨S1x1025x768, .f32⟩
  | 111 => ⟨S1025x768, .f32⟩
  | 112 => ⟨S1x1025x768, .f32⟩
  | 113 => ⟨S1x1025x768, .f32⟩
  | 114 => ⟨S1280x768, .f32⟩
  | 115 => ⟨S1280x768, .f32⟩
  | 116 => ⟨S1x1024x768, .f32⟩
  | 117 => ⟨S1x1024x768, .f32⟩
  | 118 => ⟨S1x1024x768, .f32⟩
  | 119 => ⟨S1x1024x768, .f32⟩
  | 120 => ⟨S1024x768, .f32⟩
  | 121 => ⟨S1024x128, .f32⟩
  | 122 => ⟨S1x1024x768, .f32⟩
  | 123 => ⟨S1x1024x768, .f32⟩
  | 124 => ⟨S1x1025x1024, .f32⟩
  | 125 => ⟨S1x1025x1024, .f32⟩
  | 126 => ⟨S1x768x768, .f32⟩
  | 127 => ⟨S1x768x768, .f32⟩
  | _ => ⟨S2x1024x768, .f32⟩

abbrev vmemTy0_1 (i : Nat) : BufTy := match i % 128 with
  | 0 => ⟨S1x1025x768, .f32⟩
  | 1 => ⟨S1x1025x768, .f32⟩
  | 2 => ⟨S1x1025x768, .f32⟩
  | 3 => ⟨S1x1025x768, .f32⟩
  | 4 => ⟨S1025x768, .f32⟩
  | 5 => ⟨S8x768, .f32⟩
  | 6 => ⟨S3200x768, .f32⟩
  | 7 => ⟨S3200x768, .f32⟩
  | 8 => ⟨S8x3200, .f32⟩
  | 9 => ⟨S8x3200, .f32⟩
  | _ => ⟨S2x1024x768, .f32⟩

abbrev vmemTy (i : Nat) : BufTy := match i / 128 with
  | 0 => vmemTy0_0 i
  | 1 => vmemTy0_1 i
  | _ => ⟨S2x1024x768, .f32⟩

abbrev bufTy : (tb : Table) → Fin (tcTables nBuf tb) → BufTy
  | .hbm, ⟨0, _⟩ => ⟨S2x1024x768, .f32⟩
  | .hbm, ⟨1, _⟩ => ⟨S32000x768, .f32⟩
  | .hbm, ⟨2, _⟩ => ⟨S1025x768, .f32⟩
  | .hbm, ⟨3, _⟩ => ⟨S12x768x768, .f32⟩
  | .hbm, ⟨4, _⟩ => ⟨S12x768x768, .f32⟩
  | .hbm, ⟨5, _⟩ => ⟨S12x768x768, .f32⟩
  | .hbm, ⟨6, _⟩ => ⟨S12x1x1, .f32⟩
  | .hbm, ⟨7, _⟩ => ⟨S1x1x1, .f32⟩
  | .hbm, ⟨8, _⟩ => ⟨S1x12, .f32⟩
  | .hbm, ⟨9, _⟩ => ⟨S1x1, .f32⟩
  | .hbm, ⟨10, _⟩ => ⟨S12x1025x1024, .f32⟩
  | .hbm, ⟨11, _⟩ => ⟨S_, .f32⟩
  | .hbm, ⟨12, _⟩ => ⟨S2x1025x768, .f32⟩
  | .hbm, ⟨13, _⟩ => ⟨S2x1024x768, .f32⟩
  | .hbm, ⟨14, _⟩ => ⟨S2x1025x768, .f32⟩
  | .hbm, ⟨15, _⟩ => ⟨S2x1024x768, .f32⟩
  | .hbm, ⟨16, _⟩ => ⟨S2x1025x768, .f32⟩
  | .hbm, ⟨17, _⟩ => ⟨S2x1024x768, .f32⟩
  | .hbm, ⟨18, _⟩ => ⟨S2x1025x768, .f32⟩
  | .hbm, ⟨19, _⟩ => ⟨S2x1024x768, .f32⟩
  | .hbm, ⟨20, _⟩ => ⟨S2x1025x768, .f32⟩
  | .hbm, ⟨21, _⟩ => ⟨S2x1024x768, .f32⟩
  | .hbm, ⟨22, _⟩ => ⟨S2x1025x768, .f32⟩
  | .hbm, ⟨23, _⟩ => ⟨S2x1024x768, .f32⟩
  | .hbm, ⟨24, _⟩ => ⟨S2x1025x768, .f32⟩
  | .hbm, ⟨25, _⟩ => ⟨S2x1x768, .f32⟩
  | .hbm, ⟨26, _⟩ => ⟨S2x768, .f32⟩
  | .hbm, ⟨27, _⟩ => ⟨S_, .i32⟩
  | .hbm, ⟨28, _⟩ => ⟨S_, .f32⟩
  | .hbm, ⟨29, _⟩ => ⟨S8x768, .f32⟩
  | .hbm, ⟨30, _⟩ => ⟨S8x32000, .f32⟩
  | .hbm, ⟨31, _⟩ => ⟨S2x32000, .f32⟩
  | .local _ .vmem, ⟨i, _⟩ => vmemTy i
  | .local _ .smem, ⟨0, _⟩ => ⟨S1x12, .f32⟩
  | .local _ .smem, ⟨1, _⟩ => ⟨S1x1, .f32⟩
  | .local _ .smem, ⟨2, _⟩ => ⟨S1x12, .f32⟩
  | .local _ .smem, ⟨3, _⟩ => ⟨S1x1, .f32⟩
  | .local _ .smem, ⟨4, _⟩ => ⟨S1x12, .f32⟩
  | .local _ .smem, ⟨5, _⟩ => ⟨S1x1, .f32⟩
  | .local _ .smem, ⟨6, _⟩ => ⟨S1x12, .f32⟩
  | .local _ .smem, ⟨7, _⟩ => ⟨S1x1, .f32⟩
  | .local _ .smem, ⟨8, _⟩ => ⟨S1x12, .f32⟩
  | .local _ .smem, ⟨9, _⟩ => ⟨S1x1, .f32⟩
  | .local _ .smem, ⟨10, _⟩ => ⟨S1x12, .f32⟩
  | .local _ .smem, ⟨11, _⟩ => ⟨S1x1, .f32⟩
  | _, _ => ⟨S2x1024x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | .smem, ⟨11, _⟩ => true
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc1_scratch1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg6_0 : Ref sig .tc := ⟨.vmem, 25, rfl⟩
abbrev cc2_stg6_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_scratch0 : Ref sig .tc := ⟨.vmem, 36, rfl⟩
abbrev cc3_scratch1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg3_1 : Ref sig .tc := ⟨.vmem, 45, rfl⟩
abbrev cc4_stg6_0 : Ref sig .tc := ⟨.vmem, 46, rfl⟩
abbrev cc4_stg6_1 : Ref sig .tc := ⟨.vmem, 47, rfl⟩
abbrev cc4_scratch0 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg3_1 : Ref sig .tc := ⟨.vmem, 56, rfl⟩
abbrev cc5_scratch0 : Ref sig .tc := ⟨.vmem, 57, rfl⟩
abbrev cc5_scratch1 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg1_1 : Ref sig .tc := ⟨.vmem, 62, rfl⟩
abbrev cc6_stg2_0 : Ref sig .tc := ⟨.vmem, 63, rfl⟩
abbrev cc6_stg2_1 : Ref sig .tc := ⟨.vmem, 64, rfl⟩
abbrev cc6_stg3_0 : Ref sig .tc := ⟨.vmem, 65, rfl⟩
abbrev cc6_stg3_1 : Ref sig .tc := ⟨.vmem, 66, rfl⟩
abbrev cc6_stg6_0 : Ref sig .tc := ⟨.vmem, 67, rfl⟩
abbrev cc6_stg6_1 : Ref sig .tc := ⟨.vmem, 68, rfl⟩
abbrev cc6_scratch0 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg1_1 : Ref sig .tc := ⟨.vmem, 73, rfl⟩
abbrev cc7_stg2_0 : Ref sig .tc := ⟨.vmem, 74, rfl⟩
abbrev cc7_stg2_1 : Ref sig .tc := ⟨.vmem, 75, rfl⟩
abbrev cc7_stg3_0 : Ref sig .tc := ⟨.vmem, 76, rfl⟩
abbrev cc7_stg3_1 : Ref sig .tc := ⟨.vmem, 77, rfl⟩
abbrev cc7_scratch0 : Ref sig .tc := ⟨.vmem, 78, rfl⟩
abbrev cc7_scratch1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg1_1 : Ref sig .tc := ⟨.vmem, 83, rfl⟩
abbrev cc8_stg2_0 : Ref sig .tc := ⟨.vmem, 84, rfl⟩
abbrev cc8_stg2_1 : Ref sig .tc := ⟨.vmem, 85, rfl⟩
abbrev cc8_stg3_0 : Ref sig .tc := ⟨.vmem, 86, rfl⟩
abbrev cc8_stg3_1 : Ref sig .tc := ⟨.vmem, 87, rfl⟩
abbrev cc8_stg6_0 : Ref sig .tc := ⟨.vmem, 88, rfl⟩
abbrev cc8_stg6_1 : Ref sig .tc := ⟨.vmem, 89, rfl⟩
abbrev cc8_scratch0 : Ref sig .tc := ⟨.vmem, 90, rfl⟩
abbrev cc9_stg0_0 : Ref sig .tc := ⟨.vmem, 91, rfl⟩
abbrev cc9_stg0_1 : Ref sig .tc := ⟨.vmem, 92, rfl⟩
abbrev cc9_stg1_0 : Ref sig .tc := ⟨.vmem, 93, rfl⟩
abbrev cc9_stg1_1 : Ref sig .tc := ⟨.vmem, 94, rfl⟩
abbrev cc9_stg2_0 : Ref sig .tc := ⟨.vmem, 95, rfl⟩
abbrev cc9_stg2_1 : Ref sig .tc := ⟨.vmem, 96, rfl⟩
abbrev cc9_stg3_0 : Ref sig .tc := ⟨.vmem, 97, rfl⟩
abbrev cc9_stg3_1 : Ref sig .tc := ⟨.vmem, 98, rfl⟩
abbrev cc9_scratch0 : Ref sig .tc := ⟨.vmem, 99, rfl⟩
abbrev cc9_scratch1 : Ref sig .tc := ⟨.vmem, 100, rfl⟩
abbrev cc10_stg0_0 : Ref sig .tc := ⟨.vmem, 101, rfl⟩
abbrev cc10_stg0_1 : Ref sig .tc := ⟨.vmem, 102, rfl⟩
abbrev cc10_stg1_0 : Ref sig .tc := ⟨.vmem, 103, rfl⟩
abbrev cc10_stg1_1 : Ref sig .tc := ⟨.vmem, 104, rfl⟩
abbrev cc10_stg2_0 : Ref sig .tc := ⟨.vmem, 105, rfl⟩
abbrev cc10_stg2_1 : Ref sig .tc := ⟨.vmem, 106, rfl⟩
abbrev cc10_stg3_0 : Ref sig .tc := ⟨.vmem, 107, rfl⟩
abbrev cc10_stg3_1 : Ref sig .tc := ⟨.vmem, 108, rfl⟩
abbrev cc10_stg6_0 : Ref sig .tc := ⟨.vmem, 109, rfl⟩
abbrev cc10_stg6_1 : Ref sig .tc := ⟨.vmem, 110, rfl⟩
abbrev cc10_scratch0 : Ref sig .tc := ⟨.vmem, 111, rfl⟩
abbrev cc11_stg0_0 : Ref sig .tc := ⟨.vmem, 112, rfl⟩
abbrev cc11_stg0_1 : Ref sig .tc := ⟨.vmem, 113, rfl⟩
abbrev cc11_stg1_0 : Ref sig .tc := ⟨.vmem, 114, rfl⟩
abbrev cc11_stg1_1 : Ref sig .tc := ⟨.vmem, 115, rfl⟩
abbrev cc11_stg2_0 : Ref sig .tc := ⟨.vmem, 116, rfl⟩
abbrev cc11_stg2_1 : Ref sig .tc := ⟨.vmem, 117, rfl⟩
abbrev cc11_stg3_0 : Ref sig .tc := ⟨.vmem, 118, rfl⟩
abbrev cc11_stg3_1 : Ref sig .tc := ⟨.vmem, 119, rfl⟩
abbrev cc11_scratch0 : Ref sig .tc := ⟨.vmem, 120, rfl⟩
abbrev cc11_scratch1 : Ref sig .tc := ⟨.vmem, 121, rfl⟩
abbrev cc12_stg0_0 : Ref sig .tc := ⟨.vmem, 122, rfl⟩
abbrev cc12_stg0_1 : Ref sig .tc := ⟨.vmem, 123, rfl⟩
abbrev cc12_stg1_0 : Ref sig .tc := ⟨.vmem, 124, rfl⟩
abbrev cc12_stg1_1 : Ref sig .tc := ⟨.vmem, 125, rfl⟩
abbrev cc12_stg2_0 : Ref sig .tc := ⟨.vmem, 126, rfl⟩
abbrev cc12_stg2_1 : Ref sig .tc := ⟨.vmem, 127, rfl⟩
abbrev cc12_stg3_0 : Ref sig .tc := ⟨.vmem, 128, rfl⟩
abbrev cc12_stg3_1 : Ref sig .tc := ⟨.vmem, 129, rfl⟩
abbrev cc12_stg6_0 : Ref sig .tc := ⟨.vmem, 130, rfl⟩
abbrev cc12_stg6_1 : Ref sig .tc := ⟨.vmem, 131, rfl⟩
abbrev cc12_scratch0 : Ref sig .tc := ⟨.vmem, 132, rfl⟩
abbrev cc13_stg0_0 : Ref sig .tc := ⟨.vmem, 133, rfl⟩
abbrev cc13_stg1_0 : Ref sig .tc := ⟨.vmem, 134, rfl⟩
abbrev cc13_stg1_1 : Ref sig .tc := ⟨.vmem, 135, rfl⟩
abbrev cc13_stg2_0 : Ref sig .tc := ⟨.vmem, 136, rfl⟩
abbrev cc13_stg2_1 : Ref sig .tc := ⟨.vmem, 137, rfl⟩
abbrev cc2_stg4_0 : Ref sig .tc := ⟨.smem, 0, rfl⟩
abbrev cc2_stg5_0 : Ref sig .tc := ⟨.smem, 1, rfl⟩
abbrev cc4_stg4_0 : Ref sig .tc := ⟨.smem, 2, rfl⟩
abbrev cc4_stg5_0 : Ref sig .tc := ⟨.smem, 3, rfl⟩
abbrev cc6_stg4_0 : Ref sig .tc := ⟨.smem, 4, rfl⟩
abbrev cc6_stg5_0 : Ref sig .tc := ⟨.smem, 5, rfl⟩
abbrev cc8_stg4_0 : Ref sig .tc := ⟨.smem, 6, rfl⟩
abbrev cc8_stg5_0 : Ref sig .tc := ⟨.smem, 7, rfl⟩
abbrev cc10_stg4_0 : Ref sig .tc := ⟨.smem, 8, rfl⟩
abbrev cc10_stg5_0 : Ref sig .tc := ⟨.smem, 9, rfl⟩
abbrev cc12_stg4_0 : Ref sig .tc := ⟨.smem, 10, rfl⟩
abbrev cc12_stg5_0 : Ref sig .tc := ⟨.smem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem5_0 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem3_1 : DmaSem sig := 42
abbrev cc4_sem4_0 : DmaSem sig := 43
abbrev cc4_sem5_0 : DmaSem sig := 44
abbrev cc4_sem6_0 : DmaSem sig := 45
abbrev cc4_sem6_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem2_1 : DmaSem sig := 52
abbrev cc5_sem3_0 : DmaSem sig := 53
abbrev cc5_sem3_1 : DmaSem sig := 54
abbrev cc6_sem0_0 : DmaSem sig := 55
abbrev cc6_sem0_1 : DmaSem sig := 56
abbrev cc6_sem1_0 : DmaSem sig := 57
abbrev cc6_sem1_1 : DmaSem sig := 58
abbrev cc6_sem2_0 : DmaSem sig := 59
abbrev cc6_sem2_1 : DmaSem sig := 60
abbrev cc6_sem3_0 : DmaSem sig := 61
abbrev cc6_sem3_1 : DmaSem sig := 62
abbrev cc6_sem4_0 : DmaSem sig := 63
abbrev cc6_sem5_0 : DmaSem sig := 64
abbrev cc6_sem6_0 : DmaSem sig := 65
abbrev cc6_sem6_1 : DmaSem sig := 66
abbrev cc7_sem0_0 : DmaSem sig := 67
abbrev cc7_sem0_1 : DmaSem sig := 68
abbrev cc7_sem1_0 : DmaSem sig := 69
abbrev cc7_sem1_1 : DmaSem sig := 70
abbrev cc7_sem2_0 : DmaSem sig := 71
abbrev cc7_sem2_1 : DmaSem sig := 72
abbrev cc7_sem3_0 : DmaSem sig := 73
abbrev cc7_sem3_1 : DmaSem sig := 74
abbrev cc8_sem0_0 : DmaSem sig := 75
abbrev cc8_sem0_1 : DmaSem sig := 76
abbrev cc8_sem1_0 : DmaSem sig := 77
abbrev cc8_sem1_1 : DmaSem sig := 78
abbrev cc8_sem2_0 : DmaSem sig := 79
abbrev cc8_sem2_1 : DmaSem sig := 80
abbrev cc8_sem3_0 : DmaSem sig := 81
abbrev cc8_sem3_1 : DmaSem sig := 82
abbrev cc8_sem4_0 : DmaSem sig := 83
abbrev cc8_sem5_0 : DmaSem sig := 84
abbrev cc8_sem6_0 : DmaSem sig := 85
abbrev cc8_sem6_1 : DmaSem sig := 86
abbrev cc9_sem0_0 : DmaSem sig := 87
abbrev cc9_sem0_1 : DmaSem sig := 88
abbrev cc9_sem1_0 : DmaSem sig := 89
abbrev cc9_sem1_1 : DmaSem sig := 90
abbrev cc9_sem2_0 : DmaSem sig := 91
abbrev cc9_sem2_1 : DmaSem sig := 92
abbrev cc9_sem3_0 : DmaSem sig := 93
abbrev cc9_sem3_1 : DmaSem sig := 94
abbrev cc10_sem0_0 : DmaSem sig := 95
abbrev cc10_sem0_1 : DmaSem sig := 96
abbrev cc10_sem1_0 : DmaSem sig := 97
abbrev cc10_sem1_1 : DmaSem sig := 98
abbrev cc10_sem2_0 : DmaSem sig := 99
abbrev cc10_sem2_1 : DmaSem sig := 100
abbrev cc10_sem3_0 : DmaSem sig := 101
abbrev cc10_sem3_1 : DmaSem sig := 102
abbrev cc10_sem4_0 : DmaSem sig := 103
abbrev cc10_sem5_0 : DmaSem sig := 104
abbrev cc10_sem6_0 : DmaSem sig := 105
abbrev cc10_sem6_1 : DmaSem sig := 106
abbrev cc11_sem0_0 : DmaSem sig := 107
abbrev cc11_sem0_1 : DmaSem sig := 108
abbrev cc11_sem1_0 : DmaSem sig := 109
abbrev cc11_sem1_1 : DmaSem sig := 110
abbrev cc11_sem2_0 : DmaSem sig := 111
abbrev cc11_sem2_1 : DmaSem sig := 112
abbrev cc11_sem3_0 : DmaSem sig := 113
abbrev cc11_sem3_1 : DmaSem sig := 114
abbrev cc12_sem0_0 : DmaSem sig := 115
abbrev cc12_sem0_1 : DmaSem sig := 116
abbrev cc12_sem1_0 : DmaSem sig := 117
abbrev cc12_sem1_1 : DmaSem sig := 118
abbrev cc12_sem2_0 : DmaSem sig := 119
abbrev cc12_sem2_1 : DmaSem sig := 120
abbrev cc12_sem3_0 : DmaSem sig := 121
abbrev cc12_sem3_1 : DmaSem sig := 122
abbrev cc12_sem4_0 : DmaSem sig := 123
abbrev cc12_sem5_0 : DmaSem sig := 124
abbrev cc12_sem6_0 : DmaSem sig := 125
abbrev cc12_sem6_1 : DmaSem sig := 126
abbrev cc13_sem0_0 : DmaSem sig := 127
abbrev cc13_sem1_0 : DmaSem sig := 128
abbrev cc13_sem1_1 : DmaSem sig := 129
abbrev cc13_sem2_0 : DmaSem sig := 130
abbrev cc13_sem2_1 : DmaSem sig := 131

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1025x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x768x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1025x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 25], ![false, false]⟩

def k1_cond2 (i : grid1.Coords) : BitVec 1 :=
  let arg1 : BitVec 32 := BitVec.ofNat 32 (i 1).val
  let c24_i32 : BitVec 32 := 24#32
  let v22 : BitVec 1 := Scalar.cmpi .eq arg1 c24_i32
  let v23 : BitVec 32 := Scalar.extui v22
  let c0_i32_15 : BitVec 32 := 0#32
  let v24 : BitVec 1 := Scalar.cmpi .ne v23 c0_i32_15
  v24

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1025x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1280x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 12], ![false, false]⟩

def k2_off1 (i : grid2.Coords) : Fin 2 → Nat :=
  let c0_6 : Index := 0#32
  let arg1 : BitVec 32 := BitVec.ofNat 32 (i 1).val
  let v8 : Index := Scalar.indexCast arg1
  ![0, v8.toNat]
def k2_cond2 (i : grid2.Coords) : BitVec 1 :=
  let arg1 : BitVec 32 := BitVec.ofNat 32 (i 1).val
  let c11_i32 : BitVec 32 := 11#32
  let v20 : BitVec 1 := Scalar.cmpi .eq arg1 c11_i32
  let v21 : BitVec 32 := Scalar.extui v20
  let c0_i32_15 : BitVec 32 := 0#32
  let v22 : BitVec 1 := Scalar.cmpi .ne v21 c0_i32_15
  v22

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1025x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x768x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1025x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .smem S1x12 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .smem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x1025x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨2, ![2, 25], ![false, false]⟩

def k3_cond2 (i : grid3.Coords) : BitVec 1 :=
  let arg1 : BitVec 32 := BitVec.ofNat 32 (i 1).val
  let c24_i32 : BitVec 32 := 24#32
  let v22 : BitVec 1 := Scalar.cmpi .eq arg1 c24_i32
  let v23 : BitVec 32 := Scalar.extui v22
  let c0_i32_15 : BitVec 32 := 0#32
  let v24 : BitVec 1 := Scalar.cmpi .ne v23 c0_i32_15
  v24

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1025x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1280x768 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1024x768 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1024x768 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![2, 12], ![false, false]⟩

def k4_off1 (i : grid4.Coords) : Fin 2 → Nat :=
  let c0_6 : Index := 0#32
  let arg1 : BitVec 32 := BitVec.ofNat 32 (i 1).val
  let v8 : Index := Scalar.indexCast arg1
  ![0, v8.toNat]
def k4_cond2 (i : grid4.Coords) : BitVec 1 :=
  let arg1 : BitVec 32 := BitVec.ofNat 32 (i 1).val
  let c11_i32 : BitVec 32 := 11#32
  let v20 : BitVec 1 := Scalar.cmpi .eq arg1 c11_i32
  let v21 : BitVec 32 := Scalar.extui v20
  let c0_i32_15 : BitVec 32 := 0#32
  let v22 : BitVec 1 := Scalar.cmpi .ne v21 c0_i32_15
  v22

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1024x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x1025x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x768x768 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1x1025x768 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 1 → Memref sig .tc .smem S1x12 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .smem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S1x1025x768 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

abbrev grid5 : Pipeline.Grid := ⟨2, ![2, 25], ![false, false]⟩

def k5_cond2 (i : grid5.Coords) : BitVec 1 :=
  let arg1 : BitVec 32 := BitVec.ofNat 32 (i 1).val
  let c24_i32 : BitVec 32 := 24#32
  let v22 : BitVec 1 := Scalar.cmpi .eq arg1 c24_i32
  let v23 : BitVec 32 := Scalar.extui v22
  let c0_i32_15 : BitVec 32 := 0#32
  let v24 : BitVec 1 := Scalar.cmpi .ne v23 c0_i32_15
  v24

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1025x768 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1280x768 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x1024x768 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1x1024x768 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨2, ![2, 12], ![false, false]⟩

def k6_off1 (i : grid6.Coords) : Fin 2 → Nat :=
  let c0_6 : Index := 0#32
  let arg1 : BitVec 32 := BitVec.ofNat 32 (i 1).val
  let v8 : Index := Scalar.indexCast arg1
  ![0, v8.toNat]
def k6_cond2 (i : grid6.Coords) : BitVec 1 :=
  let arg1 : BitVec 32 := BitVec.ofNat 32 (i 1).val
  let c11_i32 : BitVec 32 := 11#32
  let v20 : BitVec 1 := Scalar.cmpi .eq arg1 c11_i32
  let v21 : BitVec 32 := Scalar.extui v20
  let c0_i32_15 : BitVec 32 := 0#32
  let v22 : BitVec 1 := Scalar.cmpi .ne v21 c0_i32_15
  v22

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1024x768 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S1x1025x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1x768x768 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S1x1025x768 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 1 → Memref sig .tc .smem S1x12 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, false]

abbrev stage6_5 : Fin 1 → Memref sig .tc .smem S1x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false, false]

abbrev stage6_6 : Fin 2 → Memref sig .tc .vmem S1x1025x768 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, false]

abbrev grid7 : Pipeline.Grid := ⟨2, ![2, 25], ![false, false]⟩

def k7_cond2 (i : grid7.Coords) : BitVec 1 :=
  let arg1 : BitVec 32 := BitVec.ofNat 32 (i 1).val
  let c24_i32 : BitVec 32 := 24#32
  let v22 : BitVec 1 := Scalar.cmpi .eq arg1 c24_i32
  let v23 : BitVec 32 := Scalar.extui v22
  let c0_i32_15 : BitVec 32 := 0#32
  let v24 : BitVec 1 := Scalar.cmpi .ne v23 c0_i32_15
  v24

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1025x768 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1280x768 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1x1024x768 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S1x1024x768 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![2, 12], ![false, false]⟩

def k8_off1 (i : grid8.Coords) : Fin 2 → Nat :=
  let c0_6 : Index := 0#32
  let arg1 : BitVec 32 := BitVec.ofNat 32 (i 1).val
  let v8 : Index := Scalar.indexCast arg1
  ![0, v8.toNat]
def k8_cond2 (i : grid8.Coords) : BitVec 1 :=
  let arg1 : BitVec 32 := BitVec.ofNat 32 (i 1).val
  let c11_i32 : BitVec 32 := 11#32
  let v20 : BitVec 1 := Scalar.cmpi .eq arg1 c11_i32
  let v21 : BitVec 32 := Scalar.extui v20
  let c0_i32_15 : BitVec 32 := 0#32
  let v22 : BitVec 1 := Scalar.cmpi .ne v21 c0_i32_15
  v22

def cc8_transform_0 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc8_transform_3 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x1024x768 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S1x1025x1024 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1x768x768 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true]

abbrev stage8_3 : Fin 2 → Memref sig .tc .vmem S1x1025x768 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev stage8_4 : Fin 1 → Memref sig .tc .smem S1x12 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false, false]

abbrev stage8_5 : Fin 1 → Memref sig .tc .smem S1x1 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false, false]

abbrev stage8_6 : Fin 2 → Memref sig .tc .vmem S1x1025x768 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true, false]

abbrev grid9 : Pipeline.Grid := ⟨2, ![2, 25], ![false, false]⟩

def k9_cond2 (i : grid9.Coords) : BitVec 1 :=
  let arg1 : BitVec 32 := BitVec.ofNat 32 (i 1).val
  let c24_i32 : BitVec 32 := 24#32
  let v22 : BitVec 1 := Scalar.cmpi .eq arg1 c24_i32
  let v23 : BitVec 32 := Scalar.extui v22
  let c0_i32_15 : BitVec 32 := 0#32
  let v24 : BitVec 1 := Scalar.cmpi .ne v23 c0_i32_15
  v24

def cc9_transform_0 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc9_transform_3 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x1025x768 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S1280x768 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1x1024x768 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev stage9_3 : Fin 2 → Memref sig .tc .vmem S1x1024x768 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev grid10 : Pipeline.Grid := ⟨2, ![2, 12], ![false, false]⟩

def k10_off1 (i : grid10.Coords) : Fin 2 → Nat :=
  let c0_6 : Index := 0#32
  let arg1 : BitVec 32 := BitVec.ofNat 32 (i 1).val
  let v8 : Index := Scalar.indexCast arg1
  ![0, v8.toNat]
def k10_cond2 (i : grid10.Coords) : BitVec 1 :=
  let arg1 : BitVec 32 := BitVec.ofNat 32 (i 1).val
  let c11_i32 : BitVec 32 := 11#32
  let v20 : BitVec 1 := Scalar.cmpi .eq arg1 c11_i32
  let v21 : BitVec 32 := Scalar.extui v20
  let c0_i32_15 : BitVec 32 := 0#32
  let v22 : BitVec 1 := Scalar.cmpi .ne v21 c0_i32_15
  v22

def cc10_transform_0 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc10_transform_1 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc10_transform_2 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc10_transform_3 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc10_transform_4 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x1024x768 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S1x1025x1024 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1x768x768 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![false, true]

abbrev stage10_3 : Fin 2 → Memref sig .tc .vmem S1x1025x768 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

abbrev stage10_4 : Fin 1 → Memref sig .tc .smem S1x12 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false, false]

abbrev stage10_5 : Fin 1 → Memref sig .tc .smem S1x1 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false, false]

abbrev stage10_6 : Fin 2 → Memref sig .tc .vmem S1x1025x768 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true, false]

abbrev grid11 : Pipeline.Grid := ⟨2, ![2, 25], ![false, false]⟩

def k11_cond2 (i : grid11.Coords) : BitVec 1 :=
  let arg1 : BitVec 32 := BitVec.ofNat 32 (i 1).val
  let c24_i32 : BitVec 32 := 24#32
  let v22 : BitVec 1 := Scalar.cmpi .eq arg1 c24_i32
  let v23 : BitVec 32 := Scalar.extui v22
  let c0_i32_15 : BitVec 32 := 0#32
  let v24 : BitVec 1 := Scalar.cmpi .ne v23 c0_i32_15
  v24

def cc11_transform_0 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc11_transform_3 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S1x1025x768 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false]

abbrev stage11_1 : Fin 2 → Memref sig .tc .vmem S1280x768 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S1x1024x768 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, false]

abbrev stage11_3 : Fin 2 → Memref sig .tc .vmem S1x1024x768 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, false]

abbrev grid12 : Pipeline.Grid := ⟨2, ![2, 12], ![false, false]⟩

def k12_off1 (i : grid12.Coords) : Fin 2 → Nat :=
  let c0_6 : Index := 0#32
  let arg1 : BitVec 32 := BitVec.ofNat 32 (i 1).val
  let v8 : Index := Scalar.indexCast arg1
  ![0, v8.toNat]
def k12_cond2 (i : grid12.Coords) : BitVec 1 :=
  let arg1 : BitVec 32 := BitVec.ofNat 32 (i 1).val
  let c11_i32 : BitVec 32 := 11#32
  let v20 : BitVec 1 := Scalar.cmpi .eq arg1 c11_i32
  let v21 : BitVec 32 := Scalar.extui v20
  let c0_i32_15 : BitVec 32 := 0#32
  let v22 : BitVec 1 := Scalar.cmpi .ne v21 c0_i32_15
  v22

def cc12_transform_0 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc12_transform_1 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc12_transform_2 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc12_transform_3 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc12_transform_4 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S1x1024x768 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false]

abbrev stage12_1 : Fin 2 → Memref sig .tc .vmem S1x1025x1024 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true]

abbrev stage12_2 : Fin 2 → Memref sig .tc .vmem S1x768x768 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![false, true]

abbrev stage12_3 : Fin 2 → Memref sig .tc .vmem S1x1025x768 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, false]

abbrev stage12_4 : Fin 1 → Memref sig .tc .smem S1x12 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false, false]

abbrev stage12_5 : Fin 1 → Memref sig .tc .smem S1x1 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false, false]

abbrev stage12_6 : Fin 2 → Memref sig .tc .vmem S1x1025x768 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true, false]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage13_0 : Fin 1 → Memref sig .tc .vmem S8x768 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false]

abbrev stage13_1 : Fin 2 → Memref sig .tc .vmem S3200x768 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S8x3200 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]
-- ==== ReferenceIdeal.lean ====
abbrev S2x1024x768 : Shape := ⟨3, ![2, 1024, 768]⟩
abbrev S32000x768 : Shape := ⟨2, ![32000, 768]⟩
abbrev S1025x768 : Shape := ⟨2, ![1025, 768]⟩
abbrev S12x768x768 : Shape := ⟨3, ![12, 768, 768]⟩
abbrev S12x1x1 : Shape := ⟨3, ![12, 1, 1]⟩
abbrev S1x1x1 : Shape := ⟨3, ![1, 1, 1]⟩
abbrev S1024x768 : Shape := ⟨2, ![1024, 768]⟩
abbrev S12x768x1024 : Shape := ⟨3, ![12, 768, 1024]⟩
abbrev S12x1024x768 : Shape := ⟨3, ![12, 1024, 768]⟩
abbrev S12x768x1025 : Shape := ⟨3, ![12, 768, 1025]⟩
abbrev S12x1025x768 : Shape := ⟨3, ![12, 1025, 768]⟩
abbrev S12x1025x1024 : Shape := ⟨3, ![12, 1025, 1024]⟩
abbrev S_ : Shape := ⟨0, ![]⟩
abbrev S2x1025x768 : Shape := ⟨3, ![2, 1025, 768]⟩
abbrev S2x1024x32000 : Shape := ⟨3, ![2, 1024, 32000]⟩
abbrev S2x1024 : Shape := ⟨2, ![2, 1024]⟩
abbrev S2x1024x1 : Shape := ⟨3, ![2, 1024, 1]⟩
abbrev S12x768x2x1024 : Shape := ⟨4, ![12, 768, 2, 1024]⟩
abbrev S2x12x1024x768 : Shape := ⟨4, ![2, 12, 1024, 768]⟩
abbrev S1x12x1x1 : Shape := ⟨4, ![1, 12, 1, 1]⟩
abbrev S2x768x1025 : Shape := ⟨3, ![2, 768, 1025]⟩
abbrev S2x768 : Shape := ⟨2, ![2, 768]⟩
abbrev S2x1x768 : Shape := ⟨3, ![2, 1, 768]⟩
abbrev S768x32000 : Shape := ⟨2, ![768, 32000]⟩
abbrev S2x32000 : Shape := ⟨2, ![2, 32000]⟩

abbrev nBuf : Space → Nat
  | .hbm => 64
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S32000x768, .f32⟩
  | .hbm, ⟨2, _⟩ => ⟨S1025x768, .f32⟩
  | .hbm, ⟨3, _⟩ => ⟨S12x768x768, .f32⟩
  | .hbm, ⟨4, _⟩ => ⟨S12x768x768, .f32⟩
  | .hbm, ⟨5, _⟩ => ⟨S12x768x768, .f32⟩
  | .hbm, ⟨6, _⟩ => ⟨S12x1x1, .f32⟩
  | .hbm, ⟨7, _⟩ => ⟨S1x1x1, .f32⟩
  | .hbm, ⟨8, _⟩ => ⟨S1024x768, .f32⟩
  | .hbm, ⟨9, _⟩ => ⟨S12x768x1024, .f32⟩
  | .hbm, ⟨10, _⟩ => ⟨S12x1024x768, .f32⟩
  | .hbm, ⟨11, _⟩ => ⟨S12x768x1025, .f32⟩
  | .hbm, ⟨12, _⟩ => ⟨S12x1025x768, .f32⟩
  | .hbm, ⟨13, _⟩ => ⟨S12x1025x1024, .f32⟩
  | .hbm, ⟨14, _⟩ => ⟨S_, .f32⟩
  | .hbm, ⟨15, _⟩ => ⟨S2x1025x768, .f32⟩
  | .hbm, ⟨16, _⟩ => ⟨S_, .i32⟩
  | .hbm, ⟨17, _⟩ => ⟨S32000x768, .f32⟩
  | .hbm, ⟨18, _⟩ => ⟨S2x1024x768, .f32⟩
  | .hbm, ⟨19, _⟩ => ⟨S12x768x768, .f32⟩
  | .hbm, ⟨20, _⟩ => ⟨S12x1x1, .f32⟩
  | .hbm, ⟨21, _⟩ => ⟨S12x1025x1024, .f32⟩
  | .hbm, ⟨22, _⟩ => ⟨S1x1x1, .f32⟩
  | .hbm, ⟨23, _⟩ => ⟨S_, .i32⟩
  | .hbm, ⟨24, _⟩ => ⟨S2x1025x768, .f32⟩
  | .hbm, ⟨25, _⟩ => ⟨S_, .i32⟩
  | .hbm, ⟨26, _⟩ => ⟨S_, .i1⟩
  | .hbm, ⟨27, _⟩ => ⟨S2x1024x768, .f32⟩
  | .hbm, ⟨28, _⟩ => ⟨S2x1024x32000, .f32⟩
  | .hbm, ⟨29, _⟩ => ⟨S2x1024x32000, .f32⟩
  | .hbm, ⟨30, _⟩ => ⟨S_, .f32⟩
  | .hbm, ⟨31, _⟩ => ⟨S2x1024, .f32⟩
  | .hbm, ⟨32, _⟩ => ⟨S2x1024x1, .f32⟩
  | .hbm, ⟨33, _⟩ => ⟨S_, .f32⟩
  | .hbm, ⟨34, _⟩ => ⟨S2x1024x1, .f32⟩
  | .hbm, ⟨35, _⟩ => ⟨S2x1024x1, .f32⟩
  | .hbm, ⟨36, _⟩ => ⟨S2x1024x768, .f32⟩
  | .hbm, ⟨37, _⟩ => ⟨S2x1024x768, .f32⟩
  | .hbm, ⟨38, _⟩ => ⟨S2x1024x768, .f32⟩
  | .hbm, ⟨39, _⟩ => ⟨S2x1024x768, .f32⟩
  | .hbm, ⟨40, _⟩ => ⟨S12x768x2x1024, .f32⟩
  | .hbm, ⟨41, _⟩ => ⟨S2x12x1024x768, .f32⟩
  | .hbm, ⟨42, _⟩ => ⟨S1x12x1x1, .f32⟩
  | .hbm, ⟨43, _⟩ => ⟨S2x12x1024x768, .f32⟩
  | .hbm, ⟨44, _⟩ => ⟨S2x12x1024x768, .f32⟩
  | .hbm, ⟨45, _⟩ => ⟨S2x768x1025, .f32⟩
  | .hbm, ⟨46, _⟩ => ⟨S2x1025x768, .f32⟩
  | .hbm, ⟨47, _⟩ => ⟨S2x1024x768, .f32⟩
  | .hbm, ⟨48, _⟩ => ⟨S2x1024x768, .f32⟩
  | .hbm, ⟨49, _⟩ => ⟨S_, .f32⟩
  | .hbm, ⟨50, _⟩ => ⟨S2x768, .f32⟩
  | .hbm, ⟨51, _⟩ => ⟨S2x1x768, .f32⟩
  | .hbm, ⟨52, _⟩ => ⟨S2x1025x768, .f32⟩
  | .hbm, ⟨53, _⟩ => ⟨S2x1025x768, .f32⟩
  | .hbm, ⟨54, _⟩ => ⟨S_, .f32⟩
  | .hbm, ⟨55, _⟩ => ⟨S2x1025x768, .f32⟩
  | .hbm, ⟨56, _⟩ => ⟨S2x1025x768, .f32⟩
  | .hbm, ⟨57, _⟩ => ⟨S2x1025x768, .f32⟩
  | .hbm, ⟨58, _⟩ => ⟨S_, .i32⟩
  | .hbm, ⟨59, _⟩ => ⟨S_, .i32⟩
  | .hbm, ⟨60, _⟩ => ⟨S2x1x768, .f32⟩
  | .hbm, ⟨61, _⟩ => ⟨S2x768, .f32⟩
  | .hbm, ⟨62, _⟩ => ⟨S768x32000, .f32⟩
  | .hbm, ⟨63, _⟩ => ⟨S2x32000, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_c : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev main_v7_6 : Ref sig .tc := ⟨.hbm, 23, rfl⟩
abbrev main_v7_7 : Ref sig .tc := ⟨.hbm, 24, rfl⟩
abbrev main_while0c_c_7 : Ref sig .tc := ⟨.hbm, 25, rfl⟩
abbrev main_while0c_v12 : Ref sig .tc := ⟨.hbm, 26, rfl⟩
abbrev main_while0b_v12 : Ref sig .tc := ⟨.hbm, 27, rfl⟩
abbrev main_while0b_v13 : Ref sig .tc := ⟨.hbm, 28, rfl⟩
abbrev main_while0b_v14 : Ref sig .tc := ⟨.hbm, 29, rfl⟩
abbrev main_while0b_cst_7 : Ref sig .tc := ⟨.hbm, 30, rfl⟩
abbrev main_while0b_v15 : Ref sig .tc := ⟨.hbm, 31, rfl⟩
abbrev main_while0b_v16 : Ref sig .tc := ⟨.hbm, 32, rfl⟩
abbrev main_while0b_cst_8 : Ref sig .tc := ⟨.hbm, 33, rfl⟩
abbrev main_while0b_v17 : Ref sig .tc := ⟨.hbm, 34, rfl⟩
abbrev main_while0b_v18 : Ref sig .tc := ⟨.hbm, 35, rfl⟩
abbrev main_while0b_v19 : Ref sig .tc := ⟨.hbm, 36, rfl⟩
abbrev main_while0b_v20 : Ref sig .tc := ⟨.hbm, 37, rfl⟩
abbrev main_while0b_v21 : Ref sig .tc := ⟨.hbm, 38, rfl⟩
abbrev main_while0b_v22 : Ref sig .tc := ⟨.hbm, 39, rfl⟩
abbrev main_while0b_v23 : Ref sig .tc := ⟨.hbm, 40, rfl⟩
abbrev main_while0b_v24 : Ref sig .tc := ⟨.hbm, 41, rfl⟩
abbrev main_while0b_v25 : Ref sig .tc := ⟨.hbm, 42, rfl⟩
abbrev main_while0b_v26 : Ref sig .tc := ⟨.hbm, 43, rfl⟩
abbrev main_while0b_v27 : Ref sig .tc := ⟨.hbm, 44, rfl⟩
abbrev main_while0b_v28 : Ref sig .tc := ⟨.hbm, 45, rfl⟩
abbrev main_while0b_v29 : Ref sig .tc := ⟨.hbm, 46, rfl⟩
abbrev main_while0b_v30 : Ref sig .tc := ⟨.hbm, 47, rfl⟩
abbrev main_while0b_v31 : Ref sig .tc := ⟨.hbm, 48, rfl⟩
abbrev main_while0b_cst_9 : Ref sig .tc := ⟨.hbm, 49, rfl⟩
abbrev main_while0b_v32 : Ref sig .tc := ⟨.hbm, 50, rfl⟩
abbrev main_while0b_v33 : Ref sig .tc := ⟨.hbm, 51, rfl⟩
abbrev main_while0b_v34 : Ref sig .tc := ⟨.hbm, 52, rfl⟩
abbrev main_while0b_v35 : Ref sig .tc := ⟨.hbm, 53, rfl⟩
abbrev main_while0b_cst_10 : Ref sig .tc := ⟨.hbm, 54, rfl⟩
abbrev main_while0b_v36 : Ref sig .tc := ⟨.hbm, 55, rfl⟩
abbrev main_while0b_v37 : Ref sig .tc := ⟨.hbm, 56, rfl⟩
abbrev main_while0b_v38 : Ref sig .tc := ⟨.hbm, 57, rfl⟩
abbrev main_while0b_c_11 : Ref sig .tc := ⟨.hbm, 58, rfl⟩
abbrev main_while0b_v39 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩

abbrev nD : Nat := 1
abbrev τ : Topo := Topo.v7x

variable {F : FTy → Type} [FloatOps F]

abbrev main_while0_count : Scf.Loop 32 := ⟨0#32, 6#32, 1#32⟩
-- ==== Proof.HeadBody.lean ====
/- What one grid point of the head call does, as plain functions of the blocks it is given. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first test of the body: the inner coordinate is zero. -/
abbrev hdFirst (i : grid2.Coords) : Prop := (Scalar.cmpi .ne (Scalar.extui (Scalar.cmpi .eq (BitVec.ofNat 32 (i 1).val) 0#32)) 0#32) = 1#1
/-- The second: it is the last. -/
abbrev hdLast (i : grid2.Coords) : Prop := k2_cond2 i = 1#1

/-- The learning rate of the head a grid point is at. -/
def hdRate (a : Vec F S1x12 .f32) (i : grid2.Coords) : Elt F .f32 :=
  View.ld a (Rect.unit (s := S1x12) (k2_off1 i) S1x1.size (k2_off1_inb i)) (Shape.Idx.first (numel1_S1x1.symm ▸ Nat.one_pos))
/-- The bias rate. -/
def hdBias (b : Vec F S1x1 .f32) : Elt F .f32 :=
  View.ld b (Rect.unit (s := S1x1) ![0, 0] S1x1.size inb_S1x1_S1x1_0_0) (Shape.Idx.first (numel1_S1x1.symm ▸ Nat.one_pos))
/-- The sum before the first head: the bias term. -/
def hdInit (x : Vec F S1x1024x768 .f32) (b : Vec F S1x1 .f32) : Vec F S1025x768 .f32 := k2_pay1 x (hdBias b)
/-- The sum after one more head. -/
def hdStep (x : Vec F S1x1024x768 .f32) (k : Vec F S1x1025x1024 .f32) (v : Vec F S1x768x768 .f32) (r : Elt F .f32) (n : Vec F S1025x768 .f32) : Vec F S1025x768 .f32 :=
  k2_pay2 x v r n k
/-- The block written at the last head: the iterate plus the sum divided by the sequence's length. -/
def hdOut (f : Vec F S1x1025x768 .f32) (n : Vec F S1025x768 .f32) : Vec F S1x1025x768 .f32 := k2_pay3 f n

set_option maxHeartbeats 1000000 in
theorem hd_first (c : Dev nD) (i : grid2.Coords) (arg2 : Memref sig .tc .vmem S1x1024x768 .f32) (harg2 : arg2.IsWhole) (arg3 : Memref sig .tc .vmem S1x1025x1024 .f32) (harg3 : arg3.IsWhole) (arg4 : Memref sig .tc .vmem S1x768x768 .f32) (harg4 : arg4.IsWhole) (arg5 : Memref sig .tc .vmem S1x1025x768 .f32) (harg5 : arg5.IsWhole) (arg6 : Memref sig .tc .smem S1x12 .f32) (harg6 : arg6.IsWhole) (arg7 : Memref sig .tc .smem S1x1 .f32) (harg7 : arg7.IsWhole) (arg8 : Memref sig .tc .vmem S1x1025x768 .f32) (harg8 : arg8.IsWhole) (arg9 : Memref sig .tc .vmem S1025x768 .f32) (harg9 : arg9.IsWhole)
    (hc0 : hdFirst i) (hc1 : ¬hdLast i)
    (x0 : Vec F S1x1024x768 .f32) (x1 : Vec F S1x1025x1024 .f32) (x2 : Vec F S1x768x768 .f32) (x3 : Vec F S1x1025x768 .f32) (x4 : Vec F S1x12 .f32) (x5 : Vec F S1x1 .f32) (d6 : Vec F S1x1025x768 .f32) (d7 : Vec F S1025x768 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare (hdStep x0 x1 x2 (hdRate x4 i) (hdInit x0 x5))) -∗ K ⟨⟩))
      ⊢ wp frame (wpE (defs₀ (F := F)) Variants.none c none) E (cc2_pgd_head i arg2 harg2 arg3 harg3 arg4 harg4 arg5 harg5 arg6 harg6 arg7 harg7 arg8 harg8 arg9 harg9) K := by
  simp only [cc2_pgd_head_eq_skeleton]; unfold cc2_pgd_head_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap
    · iexact H6
    ipureintro
    exact harg8.read_unread _
  · iexists _; isplitr
    swap
    · iexact H7
    ipureintro
    refine (View.read_writes_full _ _ _ _ _).trans ?_
    rw [View.readAt_full arg2.view, harg2.read_unread, View.readAt_full arg4.view, harg4.read_unread, View.readAt_full arg3.view, harg3.read_unread]
    have er : hd_first.sl.r_1 c i arg6 harg6 x4 = hdRate x4 i := by
      refine (congrFun (View.readAt_eq_ld _ _ _) _).trans ?_
      rw [harg6.read_unread]; rfl
    have en : hd_first.sl.v12 c arg2 harg2 arg7 harg7 arg9 x0 x5 = hdInit x0 x5 := by
      refine (View.readCov_full _ _ _ _ _).trans ?_
      rw [View.readAt_full arg2.view, harg2.read_unread]
      refine congrArg (k2_pay1 x0) ((congrFun (View.readAt_eq_ld _ _ _) _).trans ?_)
      rw [harg7.read_unread]; rfl
    rw [er, en]; rfl

set_option maxHeartbeats 1000000 in
theorem hd_mid (c : Dev nD) (i : grid2.Coords) (arg2 : Memref sig .tc .vmem S1x1024x768 .f32) (harg2 : arg2.IsWhole) (arg3 : Memref sig .tc .vmem S1x1025x1024 .f32) (harg3 : arg3.IsWhole) (arg4 : Memref sig .tc .vmem S1x768x768 .f32) (harg4 : arg4.IsWhole) (arg5 : Memref sig .tc .vmem S1x1025x768 .f32) (harg5 : arg5.IsWhole) (arg6 : Memref sig .tc .smem S1x12 .f32) (harg6 : arg6.IsWhole) (arg7 : Memref sig .tc .smem S1x1 .f32) (harg7 : arg7.IsWhole) (arg8 : Memref sig .tc .vmem S1x1025x768 .f32) (harg8 : arg8.IsWhole) (arg9 : Memref sig .tc .vmem S1025x768 .f32) (harg9 : arg9.IsWhole)
    (hc0 : ¬hdFirst i) (hc1 : ¬hdLast i)
    (x0 : Vec F S1x1024x768 .f32) (x1 : Vec F S1x1025x1024 .f32) (x2 : Vec F S1x768x768 .f32) (x3 : Vec F S1x1025x768 .f32) (x4 : Vec F S1x12 .f32) (x5 : Vec F S1x1 .f32) (d6 : Vec F S1x1025x768 .f32) (d7 : Vec F S1025x768 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare (hdStep x0 x1 x2 (hdRate x4 i) d7)) -∗ K ⟨⟩))
      ⊢ wp frame (wpE (defs₀ (F := F)) Variants.none c none) E (cc2_pgd_head i arg2 harg2 arg3 harg3 arg4 harg4 arg5 harg5 arg6 harg6 arg7 harg7 arg8 harg8 arg9 harg9) K := by
  simp only [cc2_pgd_head_eq_skeleton]; unfold cc2_pgd_head_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap
    · iexact H6
    ipureintro
    exact harg8.read_unread _
  · iexists _; isplitr
    swap
    · iexact H7
    ipureintro
    refine (View.read_writes_full _ _ _ _ _).trans ?_
    rw [View.readAt_full arg2.view, harg2.read_unread, View.readAt_full arg4.view, harg4.read_unread, View.readAt_full arg3.view, harg3.read_unread, View.readAt_full arg9.view, harg9.read_unread]
    have er : hd_mid.sl.r c i arg6 harg6 x4 = hdRate x4 i := by
      refine (congrFun (View.readAt_eq_ld _ _ _) _).trans ?_
      rw [harg6.read_unread]; rfl
    rw [er]; rfl

set_option maxHeartbeats 1000000 in
theorem hd_last (c : Dev nD) (i : grid2.Coords) (arg2 : Memref sig .tc .vmem S1x1024x768 .f32) (harg2 : arg2.IsWhole) (arg3 : Memref sig .tc .vmem S1x1025x1024 .f32) (harg3 : arg3.IsWhole) (arg4 : Memref sig .tc .vmem S1x768x768 .f32) (harg4 : arg4.IsWhole) (arg5 : Memref sig .tc .vmem S1x1025x768 .f32) (harg5 : arg5.IsWhole) (arg6 : Memref sig .tc .smem S1x12 .f32) (harg6 : arg6.IsWhole) (arg7 : Memref sig .tc .smem S1x1 .f32) (harg7 : arg7.IsWhole) (arg8 : Memref sig .tc .vmem S1x1025x768 .f32) (harg8 : arg8.IsWhole) (arg9 : Memref sig .tc .vmem S1025x768 .f32) (harg9 : arg9.IsWhole)
    (hc0 : ¬hdFirst i) (hc1 : hdLast i)
    (x0 : Vec F S1x1024x768 .f32) (x1 : Vec F S1x1025x1024 .f32) (x2 : Vec F S1x768x768 .f32) (x3 : Vec F S1x1025x768 .f32) (x4 : Vec F S1x12 .f32) (x5 : Vec F S1x1 .f32) (d6 : Vec F S1x1025x768 .f32) (d7 : Vec F S1025x768 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (hdOut x3 (hdStep x0 x1 x2 (hdRate x4 i) d7)) ∗ owns (c : Thread nD τ) arg9 fullShare (hdStep x0 x1 x2 (hdRate x4 i) d7)) -∗ K ⟨⟩))
      ⊢ wp frame (wpE (defs₀ (F := F)) Variants.none c none) E (cc2_pgd_head i arg2 harg2 arg3 harg3 arg4 harg4 arg5 harg5 arg6 harg6 arg7 harg7 arg8 harg8 arg9 harg9) K := by
  simp only [cc2_pgd_head_eq_skeleton]; unfold cc2_pgd_head_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap
    · iexact H6
    ipureintro
    refine (View.read_writes_full _ _ _ _ _).trans ?_
    rw [View.readAt_full arg5.view, harg5.read_unread]
    refine congrArg (k2_pay3 x3) ((View.readCov_full _ _ _ _ _).trans ?_)
    rw [View.readAt_full arg2.view, harg2.read_unread, View.readAt_full arg4.view, harg4.read_unread, View.readAt_full arg3.view, harg3.read_unread, View.readAt_full arg9.view, harg9.read_unread]
    have er : hd_last.sl.r c i arg6 harg6 x4 = hdRate x4 i := by
      refine (congrFun (View.readAt_eq_ld _ _ _) _).trans ?_
      rw [harg6.read_unread]; rfl
    rw [er]; rfl
  · iexists _; isplitr
    swap
    · iexact H7
    ipureintro
    refine (View.read_writes_full _ _ _ _ _).trans ?_
    rw [View.readAt_full arg2.view, harg2.read_unread, View.readAt_full arg4.view, harg4.read_unread, View.readAt_full arg3.view, harg3.read_unread, View.readAt_full arg9.view, harg9.read_unread]
    have er : hd_last.sl.r c i arg6 harg6 x4 = hdRate x4 i := by
      refine (congrFun (View.readAt_eq_ld _ _ _) _).trans ?_
      rw [harg6.read_unread]; rfl
    rw [er]; rfl

/-- One point of the call, whichever it is: from the scratch sum `d7` (started afresh at the first head) to the sum with this
    head added, the output written only at the last head. -/
theorem hd_run (c : Dev nD) (i : grid2.Coords) (arg2 : Memref sig .tc .vmem S1x1024x768 .f32) (harg2 : arg2.IsWhole) (arg3 : Memref sig .tc .vmem S1x1025x1024 .f32) (harg3 : arg3.IsWhole) (arg4 : Memref sig .tc .vmem S1x768x768 .f32) (harg4 : arg4.IsWhole) (arg5 : Memref sig .tc .vmem S1x1025x768 .f32) (harg5 : arg5.IsWhole) (arg6 : Memref sig .tc .smem S1x12 .f32) (harg6 : arg6.IsWhole) (arg7 : Memref sig .tc .smem S1x1 .f32) (harg7 : arg7.IsWhole) (arg8 : Memref sig .tc .vmem S1x1025x768 .f32) (harg8 : arg8.IsWhole) (arg9 : Memref sig .tc .vmem S1025x768 .f32) (harg9 : arg9.IsWhole)
    (hc : ¬(hdFirst i ∧ hdLast i))
    (x0 : Vec F S1x1024x768 .f32) (x1 : Vec F S1x1025x1024 .f32) (x2 : Vec F S1x768x768 .f32) (x3 : Vec F S1x1025x768 .f32) (x4 : Vec F S1x12 .f32) (x5 : Vec F S1x1 .f32) (d6 : Vec F S1x1025x768 .f32) (d7 : Vec F S1025x768 .f32) (n : Vec F S1025x768 .f32) (o : Vec F S1x1025x768 .f32)
    (hn : n = hdStep x0 x1 x2 (hdRate x4 i) (if hdFirst i then hdInit x0 x5 else d7))
    (ho : o = if hdLast i then hdOut x3 n else d6) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o ∗ owns (c : Thread nD τ) arg9 fullShare n) -∗ K ⟨⟩))
      ⊢ wp frame (wpE (defs₀ (F := F)) Variants.none c none) E (cc2_pgd_head i arg2 harg2 arg3 harg3 arg4 harg4 arg5 harg5 arg6 harg6 arg7 harg7 arg8 harg8 arg9 harg9) K := by
  subst ho
  by_cases h0 : hdFirst i
  · have h1 : ¬hdLast i := fun h => hc ⟨h0, h⟩
    rw [if_pos h0] at hn
    rw [if_neg h1]; subst hn
    exact hd_first c i arg2 harg2 arg3 harg3 arg4 harg4 arg5 harg5 arg6 harg6 arg7 harg7 arg8 harg8 arg9 harg9 h0 h1 x0 x1 x2 x3 x4 x5 d6 d7 E K
  · rw [if_neg h0] at hn
    subst hn
    by_cases h1 : hdLast i
    · rw [if_pos h1]
      exact hd_last c i arg2 harg2 arg3 harg3 arg4 harg4 arg5 harg5 arg6 harg6 arg7 harg7 arg8 harg8 arg9 harg9 h0 h1 x0 x1 x2 x3 x4 x5 d6 d7 E K
    · rw [if_neg h1]
      exact hd_mid c i arg2 harg2 arg3 harg3 arg4 harg4 arg5 harg5 arg6 harg6 arg7 harg7 arg8 harg8 arg9 harg9 h0 h1 x0 x1 x2 x3 x4 x5 d6 d7 E K

end Cert.KernelIdeal.Hand

end
-- ==== Proof.VocabBody.lean ====
/- What one grid point of the vocabulary call does, as plain functions of the blocks it is given. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first test of the body: the inner coordinate is zero. -/
abbrev vocFirst (i : grid1.Coords) : Prop := (Scalar.cmpi .ne (Scalar.extui (Scalar.cmpi .eq (BitVec.ofNat 32 (i 1).val) 0#32)) 0#32) = 1#1
/-- The second: it is the last. -/
abbrev vocLast (i : grid1.Coords) : Prop := k1_cond2 i = 1#1

/-- The first 1024 rows of a block of 1025. -/
def topRows (x : Vec F S1x1025x768 .f32) : Vec F S1x1024x768 .f32 :=
  View.ld x (Rect.unit (s := S1x1025x768) ![0, 0, 0] S1x1024x768.size inb_S1x1025x768_S1x1024x768_0_0_0)
/-- The weighted sum after one more block of the vocabulary. -/
def vocNum (x : Vec F S1x1025x768 .f32) (w : Vec F S1280x768 .f32) (n : Vec F S1024x768 .f32) : Vec F S1024x768 .f32 := k1_pay4 (topRows x) w n
/-- The sum of the weights after one more block. -/
def vocDen (x : Vec F S1x1025x768 .f32) (w : Vec F S1280x768 .f32) (d : Vec F S1024x128 .f32) : Vec F S1024x128 .f32 := k1_pay5 (topRows x) w d
/-- The block written at the last point: the embedding less the quotient. -/
def vocOut (e : Vec F S1x1024x768 .f32) (n : Vec F S1024x768 .f32) (d : Vec F S1024x128 .f32) : Vec F S1x1024x768 .f32 :=
  k1_pay6 (View.ld d (Rect.unit (s := S1024x128) ![0, 0] S1024x1.size inb_S1024x128_S1024x1_0_0)) e n

set_option maxHeartbeats 1000000 in
theorem voc_first (c : Dev nD) (i : grid1.Coords) (arg2 : Memref sig .tc .vmem S1x1025x768 .f32) (harg2 : arg2.IsWhole) (arg3 : Memref sig .tc .vmem S1280x768 .f32) (harg3 : arg3.IsWhole) (arg4 : Memref sig .tc .vmem S1x1024x768 .f32) (harg4 : arg4.IsWhole) (arg5 : Memref sig .tc .vmem S1x1024x768 .f32) (harg5 : arg5.IsWhole) (arg6 : Memref sig .tc .vmem S1024x768 .f32) (harg6 : arg6.IsWhole) (arg7 : Memref sig .tc .vmem S1024x128 .f32) (harg7 : arg7.IsWhole)
    (hc0 : vocFirst i) (hc1 : ¬vocLast i)
    (x0 : Vec F S1x1025x768 .f32) (x1 : Vec F S1280x768 .f32) (x2 d3 : Vec F S1x1024x768 .f32) (d6 : Vec F S1024x768 .f32) (d7 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d6 ∗ owns (c : Thread nD τ) arg7 fullShare d7
        ∗ (iprop(owns (c : Thread nD τ) arg2 fullShare x0 ∗ owns (c : Thread nD τ) arg3 fullShare x1 ∗ owns (c : Thread nD τ) arg4 fullShare x2 ∗ owns (c : Thread nD τ) arg5 fullShare (d3) ∗ owns (c : Thread nD τ) arg6 fullShare (vocNum x0 x1 k1_pay1) ∗ owns (c : Thread nD τ) arg7 fullShare (vocDen x0 x1 k1_pay2)) -∗ K ⟨⟩))
      ⊢ wp frame (wpE (defs₀ (F := F)) Variants.none c none) E (cc1_pgd_vocab i arg2 harg2 arg3 harg3 arg4 harg4 arg5 harg5 arg6 harg6 arg7 harg7) K := by
  simp only [cc1_pgd_vocab_eq_skeleton]; unfold cc1_pgd_vocab_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hfs0; obtain rfl := harg7.eq_unread hfs1
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap
    · iexact H3
    ipureintro
    exact harg5.read_unread _
  isplitl [HS0]
  · iexists _; isplitr
    swap
    · iexact HS0
    ipureintro
    rw [View.read_writes_full]
    rw [View.readAt_full arg3.view, harg3.read_unread, View.readAt_eq_ld, harg2.read_unread]
    exact congrArg (k1_pay4 (topRows x0) x1) (View.readCov_full _ _ _ _ _)
  · iexists _; isplitr
    swap
    · iexact HS1
    ipureintro
    rw [View.read_writes_full]
    rw [View.readAt_full arg3.view, harg3.read_unread, View.readAt_eq_ld, harg2.read_unread]
    exact congrArg (k1_pay5 (topRows x0) x1) (View.readCov_full _ _ _ _ _)

set_option maxHeartbeats 1000000 in
theorem voc_mid (c : Dev nD) (i : grid1.Coords) (arg2 : Memref sig .tc .vmem S1x1025x768 .f32) (harg2 : arg2.IsWhole) (arg3 : Memref sig .tc .vmem S1280x768 .f32) (harg3 : arg3.IsWhole) (arg4 : Memref sig .tc .vmem S1x1024x768 .f32) (harg4 : arg4.IsWhole) (arg5 : Memref sig .tc .vmem S1x1024x768 .f32) (harg5 : arg5.IsWhole) (arg6 : Memref sig .tc .vmem S1024x768 .f32) (harg6 : arg6.IsWhole) (arg7 : Memref sig .tc .vmem S1024x128 .f32) (harg7 : arg7.IsWhole)
    (hc0 : ¬vocFirst i) (hc1 : ¬vocLast i)
    (x0 : Vec F S1x1025x768 .f32) (x1 : Vec F S1280x768 .f32) (x2 d3 : Vec F S1x1024x768 .f32) (d6 : Vec F S1024x768 .f32) (d7 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d6 ∗ owns (c : Thread nD τ) arg7 fullShare d7
        ∗ (iprop(owns (c : Thread nD τ) arg2 fullShare x0 ∗ owns (c : Thread nD τ) arg3 fullShare x1 ∗ owns (c : Thread nD τ) arg4 fullShare x2 ∗ owns (c : Thread nD τ) arg5 fullShare (d3) ∗ owns (c : Thread nD τ) arg6 fullShare (vocNum x0 x1 d6) ∗ owns (c : Thread nD τ) arg7 fullShare (vocDen x0 x1 d7)) -∗ K ⟨⟩))
      ⊢ wp frame (wpE (defs₀ (F := F)) Variants.none c none) E (cc1_pgd_vocab i arg2 harg2 arg3 harg3 arg4 harg4 arg5 harg5 arg6 harg6 arg7 harg7) K := by
  simp only [cc1_pgd_vocab_eq_skeleton]; unfold cc1_pgd_vocab_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hfs0; obtain rfl := harg7.eq_unread hfs1
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap
    · iexact H3
    ipureintro
    exact harg5.read_unread _
  isplitl [HS0]
  · iexists _; isplitr
    swap
    · iexact HS0
    ipureintro
    rw [View.read_writes_full]
    rw [View.readAt_full arg3.view, harg3.read_unread, View.readAt_eq_ld, harg2.read_unread, View.readAt_full arg6.view, harg6.read_unread]
    rfl
  · iexists _; isplitr
    swap
    · iexact HS1
    ipureintro
    rw [View.read_writes_full]
    rw [View.readAt_full arg3.view, harg3.read_unread, View.readAt_eq_ld, harg2.read_unread, View.readAt_full arg7.view, harg7.read_unread]
    rfl

set_option maxHeartbeats 1000000 in
theorem voc_last (c : Dev nD) (i : grid1.Coords) (arg2 : Memref sig .tc .vmem S1x1025x768 .f32) (harg2 : arg2.IsWhole) (arg3 : Memref sig .tc .vmem S1280x768 .f32) (harg3 : arg3.IsWhole) (arg4 : Memref sig .tc .vmem S1x1024x768 .f32) (harg4 : arg4.IsWhole) (arg5 : Memref sig .tc .vmem S1x1024x768 .f32) (harg5 : arg5.IsWhole) (arg6 : Memref sig .tc .vmem S1024x768 .f32) (harg6 : arg6.IsWhole) (arg7 : Memref sig .tc .vmem S1024x128 .f32) (harg7 : arg7.IsWhole)
    (hc0 : ¬vocFirst i) (hc1 : vocLast i)
    (x0 : Vec F S1x1025x768 .f32) (x1 : Vec F S1280x768 .f32) (x2 d3 : Vec F S1x1024x768 .f32) (d6 : Vec F S1024x768 .f32) (d7 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d6 ∗ owns (c : Thread nD τ) arg7 fullShare d7
        ∗ (iprop(owns (c : Thread nD τ) arg2 fullShare x0 ∗ owns (c : Thread nD τ) arg3 fullShare x1 ∗ owns (c : Thread nD τ) arg4 fullShare x2 ∗ owns (c : Thread nD τ) arg5 fullShare (vocOut x2 (vocNum x0 x1 d6) (vocDen x0 x1 d7)) ∗ owns (c : Thread nD τ) arg6 fullShare (vocNum x0 x1 d6) ∗ owns (c : Thread nD τ) arg7 fullShare (vocDen x0 x1 d7)) -∗ K ⟨⟩))
      ⊢ wp frame (wpE (defs₀ (F := F)) Variants.none c none) E (cc1_pgd_vocab i arg2 harg2 arg3 harg3 arg4 harg4 arg5 harg5 arg6 harg6 arg7 harg7) K := by
  simp only [cc1_pgd_vocab_eq_skeleton]; unfold cc1_pgd_vocab_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hfs0; obtain rfl := harg7.eq_unread hfs1
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap
    · iexact H3
    ipureintro
    rw [View.read_writes_full]
    rw [View.readAt_full arg4.view, harg4.read_unread]
    have e6 : voc_last.sl.v30 c arg2 harg2 arg3 harg3 arg6 harg6 x0 x1 d6 = vocNum x0 x1 d6 := by
      refine (View.readCov_full _ _ _ _ _).trans ?_
      rw [View.readAt_full arg3.view, harg3.read_unread, View.readAt_eq_ld, harg2.read_unread, View.readAt_full arg6.view, harg6.read_unread]
      rfl
    have e7 : voc_last.sl.v25 c arg2 harg2 arg3 harg3 arg7 harg7 x0 x1 d7 = View.ld (vocDen x0 x1 d7) (Rect.unit (s := S1024x128) ![0, 0] S1024x1.size inb_S1024x128_S1024x1_0_0) := by
      funext y
      refine (congrFun (View.read_writes_full arg7.view arg7.view.junk inb_S1024x128_S1024x128_0_0 _ _) _).trans ?_
      rw [View.readAt_full arg3.view, harg3.read_unread, View.readAt_eq_ld, harg2.read_unread, View.readAt_full arg7.view, harg7.read_unread]
      rfl
    rw [e6, e7]
    rfl
  isplitl [HS0]
  · iexists _; isplitr
    swap
    · iexact HS0
    ipureintro
    refine (View.read_writes_full _ _ _ _ _).trans ?_
    rw [View.readAt_full arg3.view, harg3.read_unread, View.readAt_eq_ld, harg2.read_unread, View.readAt_full arg6.view, harg6.read_unread]
    rfl
  · iexists _; isplitr
    swap
    · iexact HS1
    ipureintro
    refine (View.read_writes_full _ _ _ _ _).trans ?_
    rw [View.readAt_full arg3.view, harg3.read_unread, View.readAt_eq_ld, harg2.read_unread, View.readAt_full arg7.view, harg7.read_unread]
    rfl

/-- One point of the call, whichever it is: from the scratch sums `d6`, `d7` (read as zero at the first point of a sweep) to the
    sums with this block added, the output written only at the last point. -/
theorem voc_run (c : Dev nD) (i : grid1.Coords) (arg2 : Memref sig .tc .vmem S1x1025x768 .f32) (harg2 : arg2.IsWhole) (arg3 : Memref sig .tc .vmem S1280x768 .f32) (harg3 : arg3.IsWhole) (arg4 : Memref sig .tc .vmem S1x1024x768 .f32) (harg4 : arg4.IsWhole) (arg5 : Memref sig .tc .vmem S1x1024x768 .f32) (harg5 : arg5.IsWhole) (arg6 : Memref sig .tc .vmem S1024x768 .f32) (harg6 : arg6.IsWhole) (arg7 : Memref sig .tc .vmem S1024x128 .f32) (harg7 : arg7.IsWhole)
    (hc : ¬(vocFirst i ∧ vocLast i))
    (x0 : Vec F S1x1025x768 .f32) (x1 : Vec F S1280x768 .f32) (x2 d3 : Vec F S1x1024x768 .f32) (d6 : Vec F S1024x768 .f32) (d7 : Vec F S1024x128 .f32) (n : Vec F S1024x768 .f32) (d : Vec F S1024x128 .f32) (o : Vec F S1x1024x768 .f32)
    (hn : n = vocNum x0 x1 (if vocFirst i then k1_pay1 else d6)) (hd : d = vocDen x0 x1 (if vocFirst i then k1_pay2 else d7))
    (ho : o = if vocLast i then vocOut x2 n d else d3) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d6 ∗ owns (c : Thread nD τ) arg7 fullShare d7
        ∗ (iprop(owns (c : Thread nD τ) arg2 fullShare x0 ∗ owns (c : Thread nD τ) arg3 fullShare x1 ∗ owns (c : Thread nD τ) arg4 fullShare x2 ∗ owns (c : Thread nD τ) arg5 fullShare o ∗ owns (c : Thread nD τ) arg6 fullShare n ∗ owns (c : Thread nD τ) arg7 fullShare d) -∗ K ⟨⟩))
      ⊢ wp frame (wpE (defs₀ (F := F)) Variants.none c none) E (cc1_pgd_vocab i arg2 harg2 arg3 harg3 arg4 harg4 arg5 harg5 arg6 harg6 arg7 harg7) K := by
  subst ho
  by_cases h0 : vocFirst i
  · have h1 : ¬vocLast i := fun h => hc ⟨h0, h⟩
    rw [if_pos h0] at hn hd
    rw [if_neg h1]; subst hn; subst hd
    exact voc_first c i arg2 harg2 arg3 harg3 arg4 harg4 arg5 harg5 arg6 harg6 arg7 harg7 h0 h1 x0 x1 x2 d3 d6 d7 E K
  · rw [if_neg h0] at hn hd
    subst hn; subst hd
    by_cases h1 : vocLast i
    · rw [if_pos h1]
      exact voc_last c i arg2 harg2 arg3 harg3 arg4 harg4 arg5 harg5 arg6 harg6 arg7 harg7 h0 h1 x0 x1 x2 d3 d6 d7 E K
    · rw [if_neg h1]
      exact voc_mid c i arg2 harg2 arg3 harg3 arg4 harg4 arg5 harg5 arg6 harg6 arg7 harg7 h0 h1 x0 x1 x2 d3 d6 d7 E K

end Cert.KernelIdeal.Hand

end
-- ==== Proof.VocabRegion.lean ====
/- The vocabulary call as a pipeline over any buffers: what its grid points leave in its scratch, and what its output array
   holds at the end. The six calls of the program are this pipeline over their own buffers. -/
module

public import proofs.«01_k».proof.Proof.VocabBody
public import Idealize.ShloMosaic.Lib.ValueIdxCoords

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## What the call computes, as functions of its three arrays -/

/-- Batch `b` of the iterate. -/
def vocX (X : Vec F S2x1025x768 .f32) (b : ℕ) : Vec F S1x1025x768 .f32 := fun y => X (ix3 ⟨b % 2, Nat.mod_lt _ (by decide)⟩ (y 1) (y 2))
/-- Block `j` of the vocabulary. -/
def vocW (X : Vec F S32000x768 .f32) (j : ℕ) : Vec F S1280x768 .f32 := fun y => X (ix2 ⟨(j * 1280 + (y 0).val) % 32000, Nat.mod_lt _ (by decide)⟩ (y 1))
/-- Batch `b` of the embeddings. -/
def vocE (X : Vec F S2x1024x768 .f32) (b : ℕ) : Vec F S1x1024x768 .f32 := fun y => X (ix3 ⟨b % 2, Nat.mod_lt _ (by decide)⟩ (y 1) (y 2))

/-- The two sums over the first `j` blocks of the vocabulary. -/
def vocAcc (x : Vec F S1x1025x768 .f32) (W : Vec F S32000x768 .f32) : ℕ → Vec F S1024x768 .f32 × Vec F S1024x128 .f32
  | 0 => (k1_pay1, k1_pay2)
  | j + 1 => (vocNum x (vocW W j) (vocAcc x W j).1, vocDen x (vocW W j) (vocAcc x W j).2)

/-- The block of the result for batch `b`. -/
def vocBlk (X : Vec F S2x1025x768 .f32) (W : Vec F S32000x768 .f32) (E : Vec F S2x1024x768 .f32) (b : ℕ) : Vec F S1x1024x768 .f32 :=
  vocOut (vocE E b) (vocAcc (vocX X b) W 25).1 (vocAcc (vocX X b) W 25).2

/-- The whole result. -/
def vocArr (X : Vec F S2x1025x768 .f32) (W : Vec F S32000x768 .f32) (E : Vec F S2x1024x768 .f32) : Vec F S2x1024x768 .f32 :=
  fun i => vocBlk X W E (i 0).val (ix3 0 (i 1) (i 2))

/-! ## The pipeline over any buffers -/

/-- The buffers of one call. -/
structure VBufs where
  f : Memref sig .tc .hbm S2x1025x768 .f32
  hf : f.IsWhole
  we : Memref sig .tc .hbm S32000x768 .f32
  hwe : we.IsWhole
  e : Memref sig .tc .hbm S2x1024x768 .f32
  he : e.IsWhole
  out : Memref sig .tc .hbm S2x1024x768 .f32
  hout : out.IsWhole
  st0 : Fin 2 → Memref sig .tc .vmem S1x1025x768 .f32
  hst0 : ∀ j, (st0 j).IsWhole
  st1 : Fin 2 → Memref sig .tc .vmem S1280x768 .f32
  hst1 : ∀ j, (st1 j).IsWhole
  st2 : Fin 2 → Memref sig .tc .vmem S1x1024x768 .f32
  hst2 : ∀ j, (st2 j).IsWhole
  st3 : Fin 2 → Memref sig .tc .vmem S1x1024x768 .f32
  hst3 : ∀ j, (st3 j).IsWhole
  sem0 : Fin 2 → DmaSem sig
  sem1 : Fin 2 → DmaSem sig
  sem2 : Fin 2 → DmaSem sig
  sem3 : Fin 2 → DmaSem sig
  num : Memref sig .tc .vmem S1024x768 .f32
  hnum : num.IsWhole
  den : Memref sig .tc .vmem S1024x128 .f32
  hden : den.IsWhole

abbrev vwin0 (B : VBufs) : Pipeline.Window sig grid1 :=
  Pipeline.Window.ofSpec B.f S1x1025x768.size cc1_transform_0 reads1_0 false false 2 B.st0 B.sem0 hrank1 hreads1_0 hinb1_0 nbuf1_0 B.hf hwx1_0 B.hst0
abbrev vwin1 (B : VBufs) : Pipeline.Window sig grid1 :=
  Pipeline.Window.ofSpec B.we S1280x768.size cc1_transform_1 reads1_1 false false 2 B.st1 B.sem1 hrank1 hreads1_1 hinb1_1 nbuf1_1 B.hwe hwx1_1 B.hst1
abbrev vwin2 (B : VBufs) : Pipeline.Window sig grid1 :=
  Pipeline.Window.ofSpec B.e S1x1024x768.size cc1_transform_2 reads1_2 false false 2 B.st2 B.sem2 hrank1 hreads1_2 hinb1_2 nbuf1_2 B.he hwx1_2 B.hst2
abbrev vwin3 (B : VBufs) : Pipeline.Window sig grid1 :=
  Pipeline.Window.ofSpec B.out S1x1024x768.size cc1_transform_3 reads1_3 true false 2 B.st3 B.sem3 hrank1 hreads1_3 hinb1_3 nbuf1_3 B.hout hwx1_3 B.hst3
abbrev vwin (B : VBufs) : Fin 4 → Pipeline.Window sig grid1 := fun | 0 => vwin0 B | 1 => vwin1 B | 2 => vwin2 B | 3 => vwin3 B | ⟨_ + 4, h⟩ => absurd h (Nat.not_lt.2 (Nat.le_add_left _ _))

/-- One call: its buffers and its body's label, whose row of the table is the body on the windows' buffers. -/
structure VCall (F : FTy → Type) [FloatOps F] extends VBufs where
  body : Λ₀.Label
  args : Fin grid1.N → ((w : Fin 4) → Fin (vwin toVBufs w).nbuf) → Λ₀.Args body
  hrow : ∀ t s, defs₀ (F := F) .tc body (args t s)
    = cc1_pgd_vocab (grid1.coords t) ((vwin0 toVBufs).stage (s 0)) (hst0 ((s 0).cast nbuf1_0)) ((vwin1 toVBufs).stage (s 1)) (hst1 ((s 1).cast nbuf1_1))
        ((vwin2 toVBufs).stage (s 2)) (hst2 ((s 2).cast nbuf1_2)) ((vwin3 toVBufs).stage (s 3)) (hst3 ((s 3).cast nbuf1_3)) num hnum den hden

/-- The call's pipeline. -/
abbrev vcfg (C : VCall F) : Pipeline.Cfg sig Λ₀ where
  grid := grid1
  W := 4
  win := vwin C.toVBufs
  body := C.body
  bodyArgs := C.args
  idle := idle1

/-- The grid has 50 points. -/
theorem vN (C : VCall F) (t : Fin (vcfg C).N) : t.val < 50 := Nat.lt_of_lt_of_eq t.isLt N_1

theorem vfirst_iff (t : Fin grid1.N) : vocFirst (grid1.coords t) ↔ t.val % 25 = 0 := by
  have ht : t.val < 50 := Nat.lt_of_lt_of_eq t.isLt N_1
  have e1 : (grid1.coords t 1).val = t.val / 1 % 25 := Pipeline.Grid.coords_val t 1 (by decide) rfl
  simp only [vocFirst, e1]
  word_cmp
theorem vlast_iff (t : Fin grid1.N) : vocLast (grid1.coords t) ↔ t.val % 25 = 24 := by
  have ht : t.val < 50 := Nat.lt_of_lt_of_eq t.isLt N_1
  have e1 : (grid1.coords t 1).val = t.val / 1 % 25 := Pipeline.Grid.coords_val t 1 (by decide) rfl
  simp only [vocLast, k1_cond2, e1]
  word_cmp

theorem vflush (C : VCall F) (t : Fin (vcfg C).N) : ((vcfg C).win 3).flush t = true ↔ t.val % 25 = 24 :=
  (fun t => Pipeline.Window.flush_reads (vwin3 C.toVBufs) rfl 0 (by decide) (show grid1.fixedAfter reads1_3 0 = true by decide) (Pipeline.Window.sep_of_coord cc1_transform_3 0 0 (fun _ => rfl) (by decide)) (P := 25) (m := 24) (by decide) rfl t : ∀ t : Fin grid1.N, (vwin3 C.toVBufs).flush t = true ↔ t.val % 25 = 24) t

/-- Where each window's block lies at point `t`. -/
theorem vidx : ∀ t : Fin grid1.N, (cc1_transform_0 (grid1.coords t) = ![t.val / 25 % 2, 0, 0]) ∧ (cc1_transform_1 (grid1.coords t) = ![t.val % 25, 0])
    ∧ (cc1_transform_2 (grid1.coords t) = ![t.val / 25 % 2, 0, 0]) ∧ (cc1_transform_3 (grid1.coords t) = ![t.val / 25 % 2, 0, 0]) := by
  decide +kernel

/-! ## The proof data -/

section Dats

variable (C : VCall F) (c : Dev nD) (A : (w : Fin 4) → Buf (Elt F) (((vcfg C).win w).arr.view.loc (c.tc : Thread nD τ)))

/-- The three input arrays, read. -/
def vX : Vec F S2x1025x768 .f32 := C.f.view.read (Elt F) (A 0)
def vW : Vec F S32000x768 .f32 := C.we.view.read (Elt F) (A 1)
def vE : Vec F S2x1024x768 .f32 := C.e.view.read (Elt F) (A 2)

/-- The scratch holds the sums over the blocks before point `n`, if that is not the first of its batch. -/
def vInv (n : ℕ) (d : Vec F S1024x768 .f32) (d' : Vec F S1024x128 .f32) : Prop :=
  n % 25 ≠ 0 → d = (vocAcc (vocX (vX C c A) (n / 25)) (vW C c A) (n % 25)).1 ∧ d' = (vocAcc (vocX (vX C c A) (n / 25)) (vW C c A) (n % 25)).2

/-- What the core holds besides the windows before point `n`. -/
def vΦ (Rest : sProp 𝕄) (n : ℕ) : sProp 𝕄 :=
  iprop(∃ d d', ⌜vInv C c A n d d'⌝ ∗ owns (c : Thread nD τ) C.num fullShare d ∗ owns (c : Thread nD τ) C.den fullShare d' ∗ Rest)

/-- What the windows' buffers hold after the body at point `t`. -/
def vafter : (w : Fin 4) → Fin grid1.N → ((vwin C.toVBufs w).block.Idx → Elt F (vwin C.toVBufs w).elt)
  | 0 => fun t => vocX (vX C c A) (t.val / 25)
  | 1 => fun t => vocW (vW C c A) (t.val % 25)
  | 2 => fun t => vocE (vE C c A) (t.val / 25)
  | 3 => fun t => vocBlk (vX C c A) (vW C c A) (vE C c A) (t.val / 25)
  | ⟨_ + 4, h⟩ => absurd h (Nat.not_lt.2 (Nat.le_add_left _ _))

/-- The call's proof data. -/
def vdat (Rest : sProp 𝕄) : Dat τ (Elt F) Unit ℕ (UR sig nD τ) ℕ (vcfg C) c where
  A := A
  after := vafter C c A
  Φ t := vΦ C c A Rest t.val
  q _ := fullShare
  owed _ := 0

/-! ### The blocks the body finds -/

theorem vblk0 (Rest : sProp 𝕄) (t : Fin (vcfg C).N) : (vdat C c A Rest).blockOf 0 t = vocX (vX C c A) (t.val / 25) := by
  obtain ⟨e0, -, -, -⟩ := vidx t
  refine funext fun (y : S1x1025x768.Idx) => congrArg (vX C c A) (funext fun a => Fin.ext ?_)
  refine (show _ = cc1_transform_0 (grid1.coords t) a * S1x1025x768.size a + 1 * (y a).val from rfl).trans ?_
  rw [e0]
  have h0 : (y 0).val < 1 := (y 0).isLt
  match a with
  | ⟨0, _⟩ => show t.val / 25 % 2 * 1 + 1 * (y 0).val = t.val / 25 % 2; omega
  | ⟨1, _⟩ => show 0 * 1025 + 1 * (y 1).val = (y 1).val; omega
  | ⟨2, _⟩ => show 0 * 768 + 1 * (y 2).val = (y 2).val; omega

theorem vblk1 (Rest : sProp 𝕄) (t : Fin (vcfg C).N) : (vdat C c A Rest).blockOf 1 t = vocW (vW C c A) (t.val % 25) := by
  obtain ⟨-, e0, -, -⟩ := vidx t
  have ht := vN C t
  refine funext fun (y : S1280x768.Idx) => congrArg (vW C c A) (funext fun a => Fin.ext ?_)
  refine (show _ = cc1_transform_1 (grid1.coords t) a * S1280x768.size a + 1 * (y a).val from rfl).trans ?_
  rw [e0]
  have h0 : (y 0).val < 1280 := (y 0).isLt
  match a with
  | ⟨0, _⟩ => show t.val % 25 * 1280 + 1 * (y 0).val = (t.val % 25 * 1280 + (y 0).val) % 32000; omega
  | ⟨1, _⟩ => show 0 * 768 + 1 * (y 1).val = (y 1).val; omega

theorem vblk2 (Rest : sProp 𝕄) (t : Fin (vcfg C).N) : (vdat C c A Rest).blockOf 2 t = vocE (vE C c A) (t.val / 25) := by
  obtain ⟨-, -, e0, -⟩ := vidx t
  refine funext fun (y : S1x1024x768.Idx) => congrArg (vE C c A) (funext fun a => Fin.ext ?_)
  refine (show _ = cc1_transform_2 (grid1.coords t) a * S1x1024x768.size a + 1 * (y a).val from rfl).trans ?_
  rw [e0]
  have h0 : (y 0).val < 1 := (y 0).isLt
  match a with
  | ⟨0, _⟩ => show t.val / 25 % 2 * 1 + 1 * (y 0).val = t.val / 25 % 2; omega
  | ⟨1, _⟩ => show 0 * 1024 + 1 * (y 1).val = (y 1).val; omega
  | ⟨2, _⟩ => show 0 * 768 + 1 * (y 2).val = (y 2).val; omega

theorem vbef0 (Rest : sProp 𝕄) (t : Fin (vcfg C).N) (d) : (vdat C c A Rest).before 0 t d = vocX (vX C c A) (t.val / 25) :=
  ((vdat C c A Rest).before_in_eq_fetched 0 rfl (fun _ => rfl) (fun _ _ _ => rfl) (fun t => (vblk0 C c A Rest t).symm) t d).trans (vblk0 C c A Rest t)
theorem vbef1 (Rest : sProp 𝕄) (t : Fin (vcfg C).N) (d) : (vdat C c A Rest).before 1 t d = vocW (vW C c A) (t.val % 25) :=
  ((vdat C c A Rest).before_in_eq_fetched 1 rfl (fun _ => rfl) (fun _ _ _ => rfl) (fun t => (vblk1 C c A Rest t).symm) t d).trans (vblk1 C c A Rest t)
theorem vbef2 (Rest : sProp 𝕄) (t : Fin (vcfg C).N) (d) : (vdat C c A Rest).before 2 t d = vocE (vE C c A) (t.val / 25) :=
  ((vdat C c A Rest).before_in_eq_fetched 2 rfl (fun _ => rfl) (fun _ _ _ => rfl) (fun t => (vblk2 C c A Rest t).symm) t d).trans (vblk2 C c A Rest t)

/-! ### The body at every point -/

theorem vidle (t : Fin (vcfg C).N) : (vcfg C).idle 3 ((vcfg C).grid.coords t) = !decide (t.val % 25 = 24) := by
  have h := vlast_iff t
  show (!(k1_cond2 (grid1.coords t) == 1#1)) = _
  by_cases e : t.val % 25 = 24
  · rw [show k1_cond2 (grid1.coords t) = 1#1 from h.2 e]; simp [e]
  · have : ¬(k1_cond2 (grid1.coords t) = 1#1) := fun h' => e (h.1 h')
    simp [e, this]

/-- The sums after the body at point `t`. -/
theorem vstep {n : ℕ} {d : Vec F S1024x768 .f32} {d' : Vec F S1024x128 .f32} (h : vInv C c A n d d') (first : Prop) [Decidable first] (hf : first ↔ n % 25 = 0) :
    (vocNum (vocX (vX C c A) (n / 25)) (vocW (vW C c A) (n % 25)) (if first then k1_pay1 else d) = (vocAcc (vocX (vX C c A) (n / 25)) (vW C c A) (n % 25 + 1)).1)
    ∧ (vocDen (vocX (vX C c A) (n / 25)) (vocW (vW C c A) (n % 25)) (if first then k1_pay2 else d') = (vocAcc (vocX (vX C c A) (n / 25)) (vW C c A) (n % 25 + 1)).2) := by
  by_cases h0 : n % 25 = 0
  · rw [if_pos (hf.2 h0), if_pos (hf.2 h0), h0]; exact ⟨rfl, rfl⟩
  · rw [if_neg (fun e => h0 (hf.1 e)), if_neg (fun e => h0 (hf.1 e)), (h h0).1, (h h0).2]; exact ⟨rfl, rfl⟩

theorem vInv_succ (n : ℕ) : vInv C c A (n + 1) (vocAcc (vocX (vX C c A) (n / 25)) (vW C c A) (n % 25 + 1)).1 (vocAcc (vocX (vX C c A) (n / 25)) (vW C c A) (n % 25 + 1)).2 := by
  intro h
  rw [show (n + 1) / 25 = n / 25 by omega, show (n + 1) % 25 = n % 25 + 1 by omega]
  exact ⟨rfl, rfl⟩

abbrev vst (t : Fin (vcfg C).N) (w : Fin 4) := ((vcfg C).win w).stage ((vcfg C).slots t w)

theorem vleave0 (Rest : sProp 𝕄) (t : Fin (vcfg C).N) : (vdat C c A Rest).leavesExact 0 t = owns (c : Thread nD τ) (vst C t 0) fullShare (vocX (vX C c A) (t.val / 25)) := rfl
theorem vleave1 (Rest : sProp 𝕄) (t : Fin (vcfg C).N) : (vdat C c A Rest).leavesExact 1 t = owns (c : Thread nD τ) (vst C t 1) fullShare (vocW (vW C c A) (t.val % 25)) := rfl
theorem vleave2 (Rest : sProp 𝕄) (t : Fin (vcfg C).N) : (vdat C c A Rest).leavesExact 2 t = owns (c : Thread nD τ) (vst C t 2) fullShare (vocE (vE C c A) (t.val / 25)) := rfl
/-- The output's buffer: written at the last point of a batch, handed back at the others. -/
theorem vleave3 (Rest : sProp 𝕄) (t : Fin (vcfg C).N) (d3) (o : Vec F S1x1024x768 .f32) (p : Prop) (hp : p ↔ t.val % 25 = 24)
    (h1 : p → o = vocOut (vocE (vE C c A) (t.val / 25)) (vocAcc (vocX (vX C c A) (t.val / 25)) (vW C c A) (t.val % 25 + 1)).1 (vocAcc (vocX (vX C c A) (t.val / 25)) (vW C c A) (t.val % 25 + 1)).2)
    (h2 : ¬p → o = (vdat C c A Rest).before 3 t d3) :
    owns (c : Thread nD τ) (vst C t 3) fullShare o ⊢ (vdat C c A Rest).leavesExact 3 t := by
  by_cases e : t.val % 25 = 24
  · have hi := vidle C t
    unfold Dat.leavesExact
    rw [hi, decide_eq_true e, h1 (hp.2 e), e]
    exact .rfl
  · rw [Dat.leavesExact_idle (vdat C c A Rest) 3 t ((vidle C t).trans (by simp [e])) (by rw [Bool.eq_false_iff]; exact fun h => e ((vflush C t).1 h)), h2 (fun h => e (hp.1 h))]
    iintro H3
    iexists d3
    iexact H3

theorem at_castSucc {α : Type} {N : ℕ} (S : ℕ → α) (t : Fin N) : S t.castSucc.val = S t.val := rfl
theorem at_succ {α : Type} {N : ℕ} (S : ℕ → α) (t : Fin N) : S t.succ.val = S (t.val + 1) := rfl
theorem vΦ_start (Rest : sProp 𝕄) (t : Fin (vcfg C).N) : (vdat C c A Rest).Φ t.castSucc = vΦ C c A Rest t.val := by
  dsimp only [vdat]; exact at_castSucc (vΦ C c A Rest) t
theorem vΦ_next (Rest : sProp 𝕄) (t : Fin (vcfg C).N) : (vdat C c A Rest).Φ t.succ = vΦ C c A Rest (t.val + 1) := by
  dsimp only [vdat]; exact at_succ (vΦ C c A Rest) t
theorem vowes (Rest : sProp 𝕄) (t : Fin (vcfg C).N) : (vdat C c A Rest).owesAt () t.succ = (vdat C c A Rest).owesAt () t.castSucc := rfl

theorem vbody_pt (Rest : sProp 𝕄) (t : Fin (vcfg C).N) :
    iprop((vdat C c A Rest).Φ t.castSucc ∗ (vdat C c A Rest).owesAt () t.castSucc
        ∗ (∃ d, owns (c : Thread nD τ) (vst C t 0) fullShare ((vdat C c A Rest).before 0 t d))
        ∗ (∃ d, owns (c : Thread nD τ) (vst C t 1) fullShare ((vdat C c A Rest).before 1 t d))
        ∗ (∃ d, owns (c : Thread nD τ) (vst C t 2) fullShare ((vdat C c A Rest).before 2 t d))
        ∗ (∃ d, owns (c : Thread nD τ) (vst C t 3) fullShare ((vdat C c A Rest).before 3 t d)))
      ⊢ wp frame (wpE (defs₀ (F := F)) Variants.none c none) Set.univ (defs₀ (F := F) .tc C.body (C.args t ((vcfg C).slots t))) fun _ =>
        iprop((vdat C c A Rest).Φ t.succ ∗ (vdat C c A Rest).owesAt () t.succ
          ∗ (vdat C c A Rest).leavesExact 0 t ∗ (vdat C c A Rest).leavesExact 1 t ∗ (vdat C c A Rest).leavesExact 2 t ∗ (vdat C c A Rest).leavesExact 3 t) := by
  have ht := vN C t
  have hf := vfirst_iff t
  have hl := vlast_iff t
  rw [C.hrow, vΦ_start, vΦ_next, vleave0, vleave1, vleave2, vowes]
  unfold vΦ
  iintro ⟨HΦ, HO, H0, H1, H2, H3⟩
  icases HΦ with ⟨%n, %d, %hinv, Hn, Hd, HR⟩
  icases H0 with ⟨%d0, H0⟩
  icases H1 with ⟨%d1, H1⟩
  icases H2 with ⟨%d2, H2⟩
  icases H3 with ⟨%d3, H3⟩
  rw [vbef0, vbef1, vbef2]
  obtain ⟨hn, hd⟩ := vstep C c A hinv _ hf
  iapply (voc_run c (grid1.coords t) _ (C.hst0 _) _ (C.hst1 _) _ (C.hst2 _) _ (C.hst3 _) _ C.hnum _ C.hden (fun ⟨a, b⟩ => by have := hf.1 a; have := hl.1 b; omega)
    (vocX (vX C c A) (t.val / 25)) (vocW (vW C c A) (t.val % 25)) (vocE (vE C c A) (t.val / 25)) ((vdat C c A Rest).before 3 t d3) n d _ _ _ hn.symm hd.symm rfl Set.univ _)
  isplitl [H0]; · iexact H0
  isplitl [H1]; · iexact H1
  isplitl [H2]; · iexact H2
  isplitl [H3]; · iexact H3
  isplitl [Hn]; · iexact Hn
  isplitl [Hd]; · iexact Hd
  iintro ⟨H0, H1, H2, H3, Hn, Hd⟩
  isplitl [Hn Hd HR]
  · iexists _; iexists _
    isplitr
    · ipureintro; exact vInv_succ C c A t.val
    isplitl [Hn]; · iexact Hn
    isplitl [Hd]; · iexact Hd
    iexact HR
  isplitl [HO]; · iexact HO
  isplitl [H0]; · iexact H0
  isplitl [H1]; · iexact H1
  isplitl [H2]; · iexact H2
  iapply (vleave3 C c A Rest t d3 _ _ hl (fun h => if_pos h) (fun h => if_neg h))
  iexact H3

theorem vbody (Rest : sProp 𝕄) : Pipeline.BodyObligation (vdat C c A Rest) (defs₀ (F := F)) Variants.none () Set.univ := fun t => by
  rw [bigSep_W1, bigSep_W1]
  exact triple_restated (vbody_pt C c A Rest t) rfl .rfl fun _ => .rfl

/-! ### The output array -/

theorem vread (Rest : sProp 𝕄) : C.out.view.read (Elt F) ((vdat C c A Rest).arrAt 3 (vcfg C).N) = vocArr (vX C c A) (vW C c A) (vE C c A) := by
  have hG : ∀ t, ((vcfg C).win 3).flush t = true → (vdat C c A Rest).flushed 3 t
      = (((vcfg C).win 3).blk t).view.read (Elt F) (C.hout.unread (vocArr (vX C c A) (vW C c A) (vE C c A))) := by
    intro t hf
    obtain ⟨-, -, -, e0⟩ := vidx t
    have ht := vN C t
    have hr : ∀ i, C.out.view.read (Elt F) (C.hout.unread (vocArr (vX C c A) (vW C c A) (vE C c A))) i = vocArr (vX C c A) (vW C c A) (vE C c A) i :=
      congrFun (C.hout.read_unread _)
    refine funext fun (y : S1x1024x768.Idx) => Eq.symm ((hr _).trans ?_)
    have hk : ∀ a : Fin 3, (((vwin3 C.toVBufs).rect t).emb y a).val = cc1_transform_3 (grid1.coords t) a * S1x1024x768.size a + 1 * (y a).val := fun _ => rfl
    rw [e0] at hk
    have h0 : (y 0).val < 1 := (y 0).isLt
    have k0 : (((vwin3 C.toVBufs).rect t).emb y 0).val = t.val / 25 := (hk 0).trans (by show t.val / 25 % 2 * 1 + 1 * (y 0).val = _; omega)
    show vocBlk (vX C c A) (vW C c A) (vE C c A) (((vwin3 C.toVBufs).rect t).emb y 0).val (ix3 0 (((vwin3 C.toVBufs).rect t).emb y 1) (((vwin3 C.toVBufs).rect t).emb y 2))
      = vocBlk (vX C c A) (vW C c A) (vE C c A) (t.val / 25) y
    rw [k0]
    refine congrArg _ (funext fun a => Fin.ext ?_)
    match a with
    | ⟨0, _⟩ => show 0 = (y 0).val; omega
    | ⟨1, _⟩ => exact (hk 1).trans (by show 0 * 1024 + 1 * (y 1).val = (y 1).val; omega)
    | ⟨2, _⟩ => exact (hk 2).trans (by show 0 * 768 + 1 * (y 2).val = (y 2).val; omega)
  funext i
  have hb : (i 0).val < 2 := (i 0).isLt
  have htN : 25 * (i 0).val + 24 < (vcfg C).N := by rw [show (vcfg C).N = 50 from N_1]; omega
  have h := congrFun ((vdat C c A Rest).read_blk_arrAt 3 _ hG ⟨25 * (i 0).val + 24, htN⟩ ((vflush C _).2 (by show (25 * (i 0).val + 24) % 25 = 24; omega))) (ix3 0 (i 1) (i 2) : S1x1024x768.Idx)
  obtain ⟨-, -, -, e0⟩ := vidx ⟨25 * (i 0).val + 24, htN⟩
  have hk : ((vwin3 C.toVBufs).rect ⟨25 * (i 0).val + 24, htN⟩).emb (ix3 0 (i 1) (i 2) : S1x1024x768.Idx) = i := by
    refine funext fun (a : Fin 3) => Fin.ext ?_
    refine (show _ = cc1_transform_3 (grid1.coords ⟨25 * (i 0).val + 24, htN⟩) a * S1x1024x768.size a + 1 * ((ix3 0 (i 1) (i 2) : S1x1024x768.Idx) a).val from rfl).trans ?_
    rw [e0]
    match a with
    | ⟨0, _⟩ => show (25 * (i 0).val + 24) / 25 % 2 * 1 + 1 * 0 = (i 0).val; omega
    | ⟨1, _⟩ => show 0 * 1024 + 1 * (i 1).val = (i 1).val; omega
    | ⟨2, _⟩ => show 0 * 768 + 1 * (i 2).val = (i 2).val; omega
  refine (congrArg (C.out.view.read (Elt F) ((vdat C c A Rest).arrAt 3 (vcfg C).N)) hk.symm).trans (h.trans ?_)
  refine (congrFun (C.hout.read_unread (vocArr (vX C c A) (vW C c A) (vE C c A))) _).trans ?_
  exact congrArg _ hk

end Dats

end Cert.KernelIdeal.Hand

end
-- ==== Proof.HeadRegion.lean ====
/- The head call as a pipeline over any buffers: what its grid points leave in its scratch, and what its output array
   holds at the end. The six calls of the program are this pipeline over their own buffers. -/
module

public import proofs.«01_k».proof.Proof.HeadBody
public import proofs.«01_k».proof.Proof.VocabRegion
public import Idealize.ShloMosaic.Lib.ValueIdxCoords

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## What the call computes, as functions of its arrays -/

/-- Head `j`'s table of keys against queries. -/
def hdK (X : Vec F S12x1025x1024 .f32) (j : ℕ) : Vec F S1x1025x1024 .f32 := fun y => X (ix3 ⟨j % 12, Nat.mod_lt _ (by decide)⟩ (y 1) (y 2))
/-- Head `j`'s value matrix. -/
def hdV (X : Vec F S12x768x768 .f32) (j : ℕ) : Vec F S1x768x768 .f32 := fun y => X (ix3 ⟨j % 12, Nat.mod_lt _ (by decide)⟩ (y 1) (y 2))
/-- Head `j`'s rate. -/
def hdA (X : Vec F S1x12 .f32) (j : ℕ) : Elt F .f32 := X (ix2 0 ⟨j % 12, Nat.mod_lt _ (by decide)⟩)

/-- The sum over the first `j` heads, the bias term included. -/
def hdAcc (x : Vec F S1x1024x768 .f32) (Kt : Vec F S12x1025x1024 .f32) (V : Vec F S12x768x768 .f32) (a : Vec F S1x12 .f32) (b : Vec F S1x1 .f32) : ℕ → Vec F S1025x768 .f32
  | 0 => hdInit x b
  | j + 1 => hdStep x (hdK Kt j) (hdV V j) (hdA a j) (hdAcc x Kt V a b j)

/-- The block of the result for batch `b`. -/
def hdBlk (D : Vec F S2x1024x768 .f32) (Kt : Vec F S12x1025x1024 .f32) (V : Vec F S12x768x768 .f32) (X : Vec F S2x1025x768 .f32) (a : Vec F S1x12 .f32) (b : Vec F S1x1 .f32) (n : ℕ) : Vec F S1x1025x768 .f32 :=
  hdOut (vocX X n) (hdAcc (vocE D n) Kt V a b 12)

/-- The whole result. -/
def hdArr (D : Vec F S2x1024x768 .f32) (Kt : Vec F S12x1025x1024 .f32) (V : Vec F S12x768x768 .f32) (X : Vec F S2x1025x768 .f32) (a : Vec F S1x12 .f32) (b : Vec F S1x1 .f32) : Vec F S2x1025x768 .f32 :=
  fun i => hdBlk D Kt V X a b (i 0).val (ix3 0 (i 1) (i 2))

/-! ## The pipeline over any buffers -/

/-- The buffers of one call. -/
structure HBufs where
  x : Memref sig .tc .hbm S2x1024x768 .f32
  hx : x.IsWhole
  k : Memref sig .tc .hbm S12x1025x1024 .f32
  hk : k.IsWhole
  v : Memref sig .tc .hbm S12x768x768 .f32
  hv : v.IsWhole
  f : Memref sig .tc .hbm S2x1025x768 .f32
  hf : f.IsWhole
  a : Memref sig .tc .hbm S1x12 .f32
  ha : a.IsWhole
  b : Memref sig .tc .hbm S1x1 .f32
  hb : b.IsWhole
  out : Memref sig .tc .hbm S2x1025x768 .f32
  hout : out.IsWhole
  st0 : Fin 2 → Memref sig .tc .vmem S1x1024x768 .f32
  hst0 : ∀ j, (st0 j).IsWhole
  st1 : Fin 2 → Memref sig .tc .vmem S1x1025x1024 .f32
  hst1 : ∀ j, (st1 j).IsWhole
  st2 : Fin 2 → Memref sig .tc .vmem S1x768x768 .f32
  hst2 : ∀ j, (st2 j).IsWhole
  st3 : Fin 2 → Memref sig .tc .vmem S1x1025x768 .f32
  hst3 : ∀ j, (st3 j).IsWhole
  st4 : Fin 1 → Memref sig .tc .smem S1x12 .f32
  hst4 : ∀ j, (st4 j).IsWhole
  st5 : Fin 1 → Memref sig .tc .smem S1x1 .f32
  hst5 : ∀ j, (st5 j).IsWhole
  st6 : Fin 2 → Memref sig .tc .vmem S1x1025x768 .f32
  hst6 : ∀ j, (st6 j).IsWhole
  sem0 : Fin 2 → DmaSem sig
  sem1 : Fin 2 → DmaSem sig
  sem2 : Fin 2 → DmaSem sig
  sem3 : Fin 2 → DmaSem sig
  sem4 : Fin 1 → DmaSem sig
  sem5 : Fin 1 → DmaSem sig
  sem6 : Fin 2 → DmaSem sig
  acc : Memref sig .tc .vmem S1025x768 .f32
  hacc : acc.IsWhole

abbrev hwin0 (B : HBufs) : Pipeline.Window sig grid2 :=
  Pipeline.Window.ofSpec B.x S1x1024x768.size cc2_transform_0 reads2_0 false false 2 B.st0 B.sem0 hrank2 hreads2_0 hinb2_0 nbuf2_0 B.hx hwx2_0 B.hst0
abbrev hwin1 (B : HBufs) : Pipeline.Window sig grid2 :=
  Pipeline.Window.ofSpec B.k S1x1025x1024.size cc2_transform_1 reads2_1 false false 2 B.st1 B.sem1 hrank2 hreads2_1 hinb2_1 nbuf2_1 B.hk hwx2_1 B.hst1
abbrev hwin2 (B : HBufs) : Pipeline.Window sig grid2 :=
  Pipeline.Window.ofSpec B.v S1x768x768.size cc2_transform_2 reads2_2 false false 2 B.st2 B.sem2 hrank2 hreads2_2 hinb2_2 nbuf2_2 B.hv hwx2_2 B.hst2
abbrev hwin3 (B : HBufs) : Pipeline.Window sig grid2 :=
  Pipeline.Window.ofSpec B.f S1x1025x768.size cc2_transform_3 reads2_3 false false 2 B.st3 B.sem3 hrank2 hreads2_3 hinb2_3 nbuf2_3 B.hf hwx2_3 B.hst3
abbrev hwin4 (B : HBufs) : Pipeline.Window sig grid2 :=
  Pipeline.Window.ofSpec B.a S1x12.size cc2_transform_4 reads2_4 false false 1 B.st4 B.sem4 hrank2 hreads2_4 hinb2_4 nbuf2_4 B.ha hwx2_4 B.hst4
abbrev hwin5 (B : HBufs) : Pipeline.Window sig grid2 :=
  Pipeline.Window.ofSpec B.b S1x1.size cc2_transform_5 reads2_5 false false 1 B.st5 B.sem5 hrank2 hreads2_5 hinb2_5 nbuf2_5 B.hb hwx2_5 B.hst5
abbrev hwin6 (B : HBufs) : Pipeline.Window sig grid2 :=
  Pipeline.Window.ofSpec B.out S1x1025x768.size cc2_transform_6 reads2_6 true false 2 B.st6 B.sem6 hrank2 hreads2_6 hinb2_6 nbuf2_6 B.hout hwx2_6 B.hst6
abbrev hwin (B : HBufs) : Fin 7 → Pipeline.Window sig grid2 := fun | 0 => hwin0 B | 1 => hwin1 B | 2 => hwin2 B | 3 => hwin3 B | 4 => hwin4 B | 5 => hwin5 B | 6 => hwin6 B | ⟨_ + 7, h⟩ => absurd h (Nat.not_lt.2 (Nat.le_add_left _ _))

/-- One call: its buffers and its body's label, whose row of the table is the body on the windows' buffers. -/
structure HCall (F : FTy → Type) [FloatOps F] extends HBufs where
  body : Λ₀.Label
  args : Fin grid2.N → ((w : Fin 7) → Fin (hwin toHBufs w).nbuf) → Λ₀.Args body
  hrow : ∀ t s, defs₀ (F := F) .tc body (args t s)
    = cc2_pgd_head (grid2.coords t) ((hwin0 toHBufs).stage (s 0)) (hst0 ((s 0).cast nbuf2_0)) ((hwin1 toHBufs).stage (s 1)) (hst1 ((s 1).cast nbuf2_1)) ((hwin2 toHBufs).stage (s 2)) (hst2 ((s 2).cast nbuf2_2)) ((hwin3 toHBufs).stage (s 3)) (hst3 ((s 3).cast nbuf2_3)) ((hwin4 toHBufs).stage (s 4)) (hst4 ((s 4).cast nbuf2_4)) ((hwin5 toHBufs).stage (s 5)) (hst5 ((s 5).cast nbuf2_5)) ((hwin6 toHBufs).stage (s 6)) (hst6 ((s 6).cast nbuf2_6)) acc hacc

/-- The call's pipeline. -/
abbrev hcfg (C : HCall F) : Pipeline.Cfg sig Λ₀ where
  grid := grid2
  W := 7
  win := hwin C.toHBufs
  body := C.body
  bodyArgs := C.args
  idle := idle2

/-- The grid has 24 points. -/
theorem hN (C : HCall F) (t : Fin (hcfg C).N) : t.val < 24 := Nat.lt_of_lt_of_eq t.isLt N_2

theorem hcoord (t : Fin grid2.N) : (grid2.coords t 1).val = t.val % 12 := by
  have e1 : (grid2.coords t 1).val = t.val / 1 % 12 := Pipeline.Grid.coords_val t 1 (by decide) rfl
  rw [e1, Nat.div_one]
theorem hfirst_iff (t : Fin grid2.N) : hdFirst (grid2.coords t) ↔ t.val % 12 = 0 := by
  have ht : t.val < 24 := Nat.lt_of_lt_of_eq t.isLt N_2
  simp only [hdFirst, hcoord]
  word_cmp
theorem hlast_iff (t : Fin grid2.N) : hdLast (grid2.coords t) ↔ t.val % 12 = 11 := by
  have ht : t.val < 24 := Nat.lt_of_lt_of_eq t.isLt N_2
  simp only [hdLast, k2_cond2, hcoord]
  word_cmp

theorem hflush (C : HCall F) (t : Fin (hcfg C).N) : ((hcfg C).win 6).flush t = true ↔ t.val % 12 = 11 :=
  (fun t => Pipeline.Window.flush_reads (hwin6 C.toHBufs) rfl 0 (by decide) (show grid2.fixedAfter reads2_6 0 = true by decide) (Pipeline.Window.sep_of_coord cc2_transform_6 0 0 (fun _ => rfl) (by decide)) (P := 12) (m := 11) (by decide) rfl t : ∀ t : Fin grid2.N, (hwin6 C.toHBufs).flush t = true ↔ t.val % 12 = 11) t

/-- Where each window's block lies at point `t`. -/
theorem hidx : ∀ t : Fin grid2.N, (cc2_transform_0 (grid2.coords t) = ![t.val / 12 % 2, 0, 0]) ∧ (cc2_transform_1 (grid2.coords t) = ![t.val % 12, 0, 0])
    ∧ (cc2_transform_2 (grid2.coords t) = ![t.val % 12, 0, 0]) ∧ (cc2_transform_3 (grid2.coords t) = ![t.val / 12 % 2, 0, 0])
    ∧ (cc2_transform_4 (grid2.coords t) = ![0, 0]) ∧ (cc2_transform_5 (grid2.coords t) = ![0, 0]) ∧ (cc2_transform_6 (grid2.coords t) = ![t.val / 12 % 2, 0, 0]) := by
  decide +kernel

/-- The rate the body reads at point `t` is head `t % 12`'s. -/
theorem hrate (a : Vec F S1x12 .f32) (t : Fin grid2.N) : hdRate a (grid2.coords t) = hdA a (t.val % 12) := by
  have e : k2_off1 (grid2.coords t) = ![0, t.val % 12] := by
    have : ∀ t : Fin grid2.N, k2_off1 (grid2.coords t) = ![0, t.val % 12] := by decide +kernel
    exact this t
  refine congrArg a (funext fun (ax : Fin 2) => Fin.ext ?_)
  refine (show _ = k2_off1 (grid2.coords t) ax + 1 * 0 from rfl).trans ?_
  rw [e]
  match ax with
  | ⟨0, _⟩ => rfl
  | ⟨1, _⟩ => show t.val % 12 + 1 * 0 = t.val % 12 % 12; omega

/-! ## The proof data -/

section Dats

variable (C : HCall F) (c : Dev nD) (A : (w : Fin 7) → Buf (Elt F) (((hcfg C).win w).arr.view.loc (c.tc : Thread nD τ)))

/-- The input arrays, read. -/
def hD : Vec F S2x1024x768 .f32 := C.x.view.read (Elt F) (A 0)
def hKt : Vec F S12x1025x1024 .f32 := C.k.view.read (Elt F) (A 1)
def hV : Vec F S12x768x768 .f32 := C.v.view.read (Elt F) (A 2)
def hX : Vec F S2x1025x768 .f32 := C.f.view.read (Elt F) (A 3)
def hA : Vec F S1x12 .f32 := C.a.view.read (Elt F) (A 4)
def hB : Vec F S1x1 .f32 := C.b.view.read (Elt F) (A 5)

/-- The sum over the first `j` heads for batch `b`. -/
def hSum (b j : ℕ) : Vec F S1025x768 .f32 := hdAcc (vocE (hD C c A) b) (hKt C c A) (hV C c A) (hA C c A) (hB C c A) j
/-- The output block of batch `b`. -/
def hBlk (b : ℕ) : Vec F S1x1025x768 .f32 := hdBlk (hD C c A) (hKt C c A) (hV C c A) (hX C c A) (hA C c A) (hB C c A) b

/-- The scratch holds the sum over the heads before point `n`, if that is not the first of its batch. -/
def hInv (n : ℕ) (d : Vec F S1025x768 .f32) : Prop := n % 12 ≠ 0 → d = hSum C c A (n / 12) (n % 12)

/-- What the core holds besides the windows before point `n`. -/
def hΦ (Rest : sProp 𝕄) (n : ℕ) : sProp 𝕄 :=
  iprop(∃ d, ⌜hInv C c A n d⌝ ∗ owns (c : Thread nD τ) C.acc fullShare d ∗ Rest)

/-- What the windows' buffers hold after the body at point `t`. -/
def hafter : (w : Fin 7) → Fin grid2.N → ((hwin C.toHBufs w).block.Idx → Elt F (hwin C.toHBufs w).elt)
  | 0 => fun t => vocE (hD C c A) (t.val / 12)
  | 1 => fun t => hdK (hKt C c A) (t.val % 12)
  | 2 => fun t => hdV (hV C c A) (t.val % 12)
  | 3 => fun t => vocX (hX C c A) (t.val / 12)
  | 4 => fun _ => hA C c A
  | 5 => fun _ => hB C c A
  | 6 => fun t => hBlk C c A (t.val / 12)
  | ⟨_ + 7, h⟩ => absurd h (Nat.not_lt.2 (Nat.le_add_left _ _))

/-- The call's proof data. -/
def hdat (Rest : sProp 𝕄) : Dat τ (Elt F) Unit ℕ (UR sig nD τ) ℕ (hcfg C) c where
  A := A
  after := hafter C c A
  Φ t := hΦ C c A Rest t.val
  q _ := fullShare
  owed _ := 0

/-! ### The blocks the body finds -/

theorem hblk0 (Rest : sProp 𝕄) (t : Fin (hcfg C).N) : (hdat C c A Rest).blockOf 0 t = vocE (hD C c A) (t.val / 12) := by
  obtain ⟨e0, -, -, -, -, -, -⟩ := hidx t
  have ht := hN C t
  refine funext fun (y : S1x1024x768.Idx) => congrArg (hD C c A) (funext fun a => Fin.ext ?_)
  refine (show _ = cc2_transform_0 (grid2.coords t) a * S1x1024x768.size a + 1 * (y a).val from rfl).trans ?_
  rw [e0]
  have h0 : (y 0).val < 1 := (y 0).isLt
  match a with
  | ⟨0, _⟩ => show t.val / 12 % 2 * 1 + 1 * (y 0).val = t.val / 12 % 2; omega
  | ⟨1, _⟩ => show 0 * 1024 + 1 * (y 1).val = (y 1).val; omega
  | ⟨2, _⟩ => show 0 * 768 + 1 * (y 2).val = (y 2).val; omega

theorem hblk1 (Rest : sProp 𝕄) (t : Fin (hcfg C).N) : (hdat C c A Rest).blockOf 1 t = hdK (hKt C c A) (t.val % 12) := by
  obtain ⟨-, e0, -, -, -, -, -⟩ := hidx t
  have ht := hN C t
  refine funext fun (y : S1x1025x1024.Idx) => congrArg (hKt C c A) (funext fun a => Fin.ext ?_)
  refine (show _ = cc2_transform_1 (grid2.coords t) a * S1x1025x1024.size a + 1 * (y a).val from rfl).trans ?_
  rw [e0]
  have h0 : (y 0).val < 1 := (y 0).isLt
  match a with
  | ⟨0, _⟩ => show t.val % 12 * 1 + 1 * (y 0).val = t.val % 12 % 12; omega
  | ⟨1, _⟩ => show 0 * 1025 + 1 * (y 1).val = (y 1).val; omega
  | ⟨2, _⟩ => show 0 * 1024 + 1 * (y 2).val = (y 2).val; omega

theorem hblk2 (Rest : sProp 𝕄) (t : Fin (hcfg C).N) : (hdat C c A Rest).blockOf 2 t = hdV (hV C c A) (t.val % 12) := by
  obtain ⟨-, -, e0, -, -, -, -⟩ := hidx t
  have ht := hN C t
  refine funext fun (y : S1x768x768.Idx) => congrArg (hV C c A) (funext fun a => Fin.ext ?_)
  refine (show _ = cc2_transform_2 (grid2.coords t) a * S1x768x768.size a + 1 * (y a).val from rfl).trans ?_
  rw [e0]
  have h0 : (y 0).val < 1 := (y 0).isLt
  match a with
  | ⟨0, _⟩ => show t.val % 12 * 1 + 1 * (y 0).val = t.val % 12 % 12; omega
  | ⟨1, _⟩ => show 0 * 768 + 1 * (y 1).val = (y 1).val; omega
  | ⟨2, _⟩ => show 0 * 768 + 1 * (y 2).val = (y 2).val; omega

theorem hblk3 (Rest : sProp 𝕄) (t : Fin (hcfg C).N) : (hdat C c A Rest).blockOf 3 t = vocX (hX C c A) (t.val / 12) := by
  obtain ⟨-, -, -, e0, -, -, -⟩ := hidx t
  have ht := hN C t
  refine funext fun (y : S1x1025x768.Idx) => congrArg (hX C c A) (funext fun a => Fin.ext ?_)
  refine (show _ = cc2_transform_3 (grid2.coords t) a * S1x1025x768.size a + 1 * (y a).val from rfl).trans ?_
  rw [e0]
  have h0 : (y 0).val < 1 := (y 0).isLt
  match a with
  | ⟨0, _⟩ => show t.val / 12 % 2 * 1 + 1 * (y 0).val = t.val / 12 % 2; omega
  | ⟨1, _⟩ => show 0 * 1025 + 1 * (y 1).val = (y 1).val; omega
  | ⟨2, _⟩ => show 0 * 768 + 1 * (y 2).val = (y 2).val; omega

theorem hblk4 (Rest : sProp 𝕄) (t : Fin (hcfg C).N) : (hdat C c A Rest).blockOf 4 t = hA C c A := by
  obtain ⟨-, -, -, -, e0, -, -⟩ := hidx t
  have ht := hN C t
  refine funext fun (y : S1x12.Idx) => congrArg (hA C c A) (funext fun a => Fin.ext ?_)
  refine (show _ = cc2_transform_4 (grid2.coords t) a * S1x12.size a + 1 * (y a).val from rfl).trans ?_
  rw [e0]
  have h0 : (y 0).val < 1 := (y 0).isLt
  match a with
  | ⟨0, _⟩ => show 0 * 1 + 1 * (y 0).val = (y 0).val; omega
  | ⟨1, _⟩ => show 0 * 12 + 1 * (y 1).val = (y 1).val; omega

theorem hblk5 (Rest : sProp 𝕄) (t : Fin (hcfg C).N) : (hdat C c A Rest).blockOf 5 t = hB C c A := by
  obtain ⟨-, -, -, -, -, e0, -⟩ := hidx t
  have ht := hN C t
  refine funext fun (y : S1x1.Idx) => congrArg (hB C c A) (funext fun a => Fin.ext ?_)
  refine (show _ = cc2_transform_5 (grid2.coords t) a * S1x1.size a + 1 * (y a).val from rfl).trans ?_
  rw [e0]
  have h0 : (y 0).val < 1 := (y 0).isLt
  match a with
  | ⟨0, _⟩ => show 0 * 1 + 1 * (y 0).val = (y 0).val; omega
  | ⟨1, _⟩ => show 0 * 1 + 1 * (y 1).val = (y 1).val; omega

theorem hbef0 (Rest : sProp 𝕄) (t : Fin (hcfg C).N) (d) : (hdat C c A Rest).before 0 t d = vocE (hD C c A) (t.val / 12) :=
  ((hdat C c A Rest).before_in_eq_fetched 0 rfl (fun _ => rfl) (fun _ _ _ => rfl) (fun t => (hblk0 C c A Rest t).symm) t d).trans (hblk0 C c A Rest t)
theorem hbef1 (Rest : sProp 𝕄) (t : Fin (hcfg C).N) (d) : (hdat C c A Rest).before 1 t d = hdK (hKt C c A) (t.val % 12) :=
  ((hdat C c A Rest).before_in_eq_fetched 1 rfl (fun _ => rfl) (fun _ _ _ => rfl) (fun t => (hblk1 C c A Rest t).symm) t d).trans (hblk1 C c A Rest t)
theorem hbef2 (Rest : sProp 𝕄) (t : Fin (hcfg C).N) (d) : (hdat C c A Rest).before 2 t d = hdV (hV C c A) (t.val % 12) :=
  ((hdat C c A Rest).before_in_eq_fetched 2 rfl (fun _ => rfl) (fun _ _ _ => rfl) (fun t => (hblk2 C c A Rest t).symm) t d).trans (hblk2 C c A Rest t)
theorem hbef3 (Rest : sProp 𝕄) (t : Fin (hcfg C).N) (d) : (hdat C c A Rest).before 3 t d = vocX (hX C c A) (t.val / 12) :=
  ((hdat C c A Rest).before_in_eq_fetched 3 rfl (fun _ => rfl) (fun _ _ _ => rfl) (fun t => (hblk3 C c A Rest t).symm) t d).trans (hblk3 C c A Rest t)
theorem hbef4 (Rest : sProp 𝕄) (t : Fin (hcfg C).N) (d) : (hdat C c A Rest).before 4 t d = hA C c A :=
  ((hdat C c A Rest).before_in_eq_fetched 4 rfl (fun _ => rfl) (fun _ _ _ => rfl) (fun t => (hblk4 C c A Rest t).symm) t d).trans (hblk4 C c A Rest t)
theorem hbef5 (Rest : sProp 𝕄) (t : Fin (hcfg C).N) (d) : (hdat C c A Rest).before 5 t d = hB C c A :=
  ((hdat C c A Rest).before_in_eq_fetched 5 rfl (fun _ => rfl) (fun _ _ _ => rfl) (fun t => (hblk5 C c A Rest t).symm) t d).trans (hblk5 C c A Rest t)

/-! ### The body at every point -/

theorem hidle (t : Fin (hcfg C).N) : (hcfg C).idle 6 ((hcfg C).grid.coords t) = !decide (t.val % 12 = 11) := by
  have h := hlast_iff t
  show (!(k2_cond2 (grid2.coords t) == 1#1)) = _
  by_cases e : t.val % 12 = 11
  · rw [show k2_cond2 (grid2.coords t) = 1#1 from h.2 e]; simp [e]
  · have : ¬(k2_cond2 (grid2.coords t) = 1#1) := fun h' => e (h.1 h')
    simp [e, this]

/-- The sum after the body at point `t`. -/
theorem hstep (t : Fin grid2.N) {d : Vec F S1025x768 .f32} (h : hInv C c A t.val d) (first : Prop) [Decidable first] (hf : first ↔ t.val % 12 = 0) :
    hSum C c A (t.val / 12) (t.val % 12 + 1) = hdStep (vocE (hD C c A) (t.val / 12)) (hdK (hKt C c A) (t.val % 12)) (hdV (hV C c A) (t.val % 12)) (hdRate (hA C c A) (grid2.coords t))
      (if first then hdInit (vocE (hD C c A) (t.val / 12)) (hB C c A) else d) := by
  rw [hrate]
  by_cases h0 : t.val % 12 = 0
  · rw [if_pos (hf.2 h0), h0]; rfl
  · rw [if_neg (fun e => h0 (hf.1 e)), h h0]; rfl

theorem hInv_succ (n : ℕ) : hInv C c A (n + 1) (hSum C c A (n / 12) (n % 12 + 1)) := by
  intro h
  rw [show (n + 1) / 12 = n / 12 by omega, show (n + 1) % 12 = n % 12 + 1 by omega]

abbrev hst (t : Fin (hcfg C).N) (w : Fin 7) := ((hcfg C).win w).stage ((hcfg C).slots t w)

theorem hleave0 (Rest : sProp 𝕄) (t : Fin (hcfg C).N) : (hdat C c A Rest).leavesExact 0 t = owns (c : Thread nD τ) (hst C t 0) fullShare (vocE (hD C c A) (t.val / 12)) := rfl
theorem hleave1 (Rest : sProp 𝕄) (t : Fin (hcfg C).N) : (hdat C c A Rest).leavesExact 1 t = owns (c : Thread nD τ) (hst C t 1) fullShare (hdK (hKt C c A) (t.val % 12)) := rfl
theorem hleave2 (Rest : sProp 𝕄) (t : Fin (hcfg C).N) : (hdat C c A Rest).leavesExact 2 t = owns (c : Thread nD τ) (hst C t 2) fullShare (hdV (hV C c A) (t.val % 12)) := rfl
theorem hleave3 (Rest : sProp 𝕄) (t : Fin (hcfg C).N) : (hdat C c A Rest).leavesExact 3 t = owns (c : Thread nD τ) (hst C t 3) fullShare (vocX (hX C c A) (t.val / 12)) := rfl
theorem hleave4 (Rest : sProp 𝕄) (t : Fin (hcfg C).N) : (hdat C c A Rest).leavesExact 4 t = owns (c : Thread nD τ) (hst C t 4) fullShare (hA C c A) := rfl
theorem hleave5 (Rest : sProp 𝕄) (t : Fin (hcfg C).N) : (hdat C c A Rest).leavesExact 5 t = owns (c : Thread nD τ) (hst C t 5) fullShare (hB C c A) := rfl
/-- The output's buffer: written at the last point of a batch, handed back at the others. -/
theorem hleave6 (Rest : sProp 𝕄) (t : Fin (hcfg C).N) (d3) (o : Vec F S1x1025x768 .f32) (p : Prop) (hp : p ↔ t.val % 12 = 11)
    (h1 : p → o = hdOut (vocX (hX C c A) (t.val / 12)) (hSum C c A (t.val / 12) (t.val % 12 + 1)))
    (h2 : ¬p → o = (hdat C c A Rest).before 6 t d3) :
    owns (c : Thread nD τ) (hst C t 6) fullShare o ⊢ (hdat C c A Rest).leavesExact 6 t := by
  by_cases e : t.val % 12 = 11
  · have hi := hidle C t
    unfold Dat.leavesExact
    rw [hi, decide_eq_true e, h1 (hp.2 e), e]
    exact .rfl
  · rw [Dat.leavesExact_idle (hdat C c A Rest) 6 t ((hidle C t).trans (by simp [e])) (by rw [Bool.eq_false_iff]; exact fun h => e ((hflush C t).1 h)), h2 (fun h => e (hp.1 h))]
    iintro H3
    iexists d3
    iexact H3

theorem hΦ_start (Rest : sProp 𝕄) (t : Fin (hcfg C).N) : (hdat C c A Rest).Φ t.castSucc = hΦ C c A Rest t.val := by
  dsimp only [hdat]; exact at_castSucc (hΦ C c A Rest) t
theorem hΦ_next (Rest : sProp 𝕄) (t : Fin (hcfg C).N) : (hdat C c A Rest).Φ t.succ = hΦ C c A Rest (t.val + 1) := by
  dsimp only [hdat]; exact at_succ (hΦ C c A Rest) t
theorem howes (Rest : sProp 𝕄) (t : Fin (hcfg C).N) : (hdat C c A Rest).owesAt () t.succ = (hdat C c A Rest).owesAt () t.castSucc := rfl

theorem hbody_pt (Rest : sProp 𝕄) (t : Fin (hcfg C).N) :
    iprop((hdat C c A Rest).Φ t.castSucc ∗ (hdat C c A Rest).owesAt () t.castSucc
        ∗ (∃ d, owns (c : Thread nD τ) (hst C t 0) fullShare ((hdat C c A Rest).before 0 t d))
        ∗ (∃ d, owns (c : Thread nD τ) (hst C t 1) fullShare ((hdat C c A Rest).before 1 t d))
        ∗ (∃ d, owns (c : Thread nD τ) (hst C t 2) fullShare ((hdat C c A Rest).before 2 t d))
        ∗ (∃ d, owns (c : Thread nD τ) (hst C t 3) fullShare ((hdat C c A Rest).before 3 t d))
        ∗ (∃ d, owns (c : Thread nD τ) (hst C t 4) fullShare ((hdat C c A Rest).before 4 t d))
        ∗ (∃ d, owns (c : Thread nD τ) (hst C t 5) fullShare ((hdat C c A Rest).before 5 t d))
        ∗ (∃ d, owns (c : Thread nD τ) (hst C t 6) fullShare ((hdat C c A Rest).before 6 t d)))
      ⊢ wp frame (wpE (defs₀ (F := F)) Variants.none c none) Set.univ (defs₀ (F := F) .tc C.body (C.args t ((hcfg C).slots t))) fun _ =>
        iprop((hdat C c A Rest).Φ t.succ ∗ (hdat C c A Rest).owesAt () t.succ
          ∗ (hdat C c A Rest).leavesExact 0 t ∗ (hdat C c A Rest).leavesExact 1 t ∗ (hdat C c A Rest).leavesExact 2 t ∗ (hdat C c A Rest).leavesExact 3 t ∗ (hdat C c A Rest).leavesExact 4 t ∗ (hdat C c A Rest).leavesExact 5 t ∗ (hdat C c A Rest).leavesExact 6 t) := by
  have ht := hN C t
  have hf := hfirst_iff t
  have hl := hlast_iff t
  rw [C.hrow, hΦ_start, hΦ_next, hleave0, hleave1, hleave2, hleave3, hleave4, hleave5, howes]
  unfold hΦ
  iintro ⟨HΦ, HO, H0, H1, H2, H3, H4, H5, H6⟩
  icases HΦ with ⟨%n, %hinv, Hn, HR⟩
  icases H0 with ⟨%d0, H0⟩
  icases H1 with ⟨%d1, H1⟩
  icases H2 with ⟨%d2, H2⟩
  icases H3 with ⟨%d3, H3⟩
  icases H4 with ⟨%d4, H4⟩
  icases H5 with ⟨%d5, H5⟩
  icases H6 with ⟨%d6, H6⟩
  rw [hbef0, hbef1, hbef2, hbef3, hbef4, hbef5]
  have hn := hstep C c A t hinv _ hf
  iapply (hd_run c (grid2.coords t) _ (C.hst0 _) _ (C.hst1 _) _ (C.hst2 _) _ (C.hst3 _) _ (C.hst4 _) _ (C.hst5 _) _ (C.hst6 _) _ C.hacc (fun ⟨a, b⟩ => by have := hf.1 a; have := hl.1 b; omega)
    (vocE (hD C c A) (t.val / 12)) (hdK (hKt C c A) (t.val % 12)) (hdV (hV C c A) (t.val % 12)) (vocX (hX C c A) (t.val / 12)) (hA C c A) (hB C c A) ((hdat C c A Rest).before 6 t d6) n _ _ hn rfl Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hn]; · iexact Hn
  iintro ⟨H0, H1, H2, H3, H4, H5, H6, Hn⟩
  isplitl [Hn HR]
  · iexists _
    isplitr
    · ipureintro; exact hInv_succ C c A t.val
    isplitl [Hn]; · iexact Hn
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  iapply (hleave6 C c A Rest t d6 _ _ hl (fun h => if_pos h) (fun h => if_neg h))
  iexact H6

theorem hbody (Rest : sProp 𝕄) : Pipeline.BodyObligation (hdat C c A Rest) (defs₀ (F := F)) Variants.none () Set.univ := fun t => by
  rw [bigSep_W2, bigSep_W2]
  exact triple_restated (hbody_pt C c A Rest t) rfl .rfl fun _ => .rfl

/-! ### The output array -/

/-- What the output array reads as at the end. -/
def hOut : Vec F S2x1025x768 .f32 := hdArr (hD C c A) (hKt C c A) (hV C c A) (hX C c A) (hA C c A) (hB C c A)

theorem hread (Rest : sProp 𝕄) : C.out.view.read (Elt F) ((hdat C c A Rest).arrAt 6 (hcfg C).N) = hOut C c A := by
  have hG : ∀ t, ((hcfg C).win 6).flush t = true → (hdat C c A Rest).flushed 6 t
      = (((hcfg C).win 6).blk t).view.read (Elt F) (C.hout.unread (hOut C c A)) := by
    intro t hf
    obtain ⟨-, -, -, -, -, -, e0⟩ := hidx t
    have ht := hN C t
    have hr : ∀ i, C.out.view.read (Elt F) (C.hout.unread (hOut C c A)) i = hOut C c A i :=
      congrFun (C.hout.read_unread _)
    refine funext fun (y : S1x1025x768.Idx) => Eq.symm ((hr _).trans ?_)
    have hk : ∀ a : Fin 3, (((hwin6 C.toHBufs).rect t).emb y a).val = cc2_transform_6 (grid2.coords t) a * S1x1025x768.size a + 1 * (y a).val := fun _ => rfl
    rw [e0] at hk
    have h0 : (y 0).val < 1 := (y 0).isLt
    have k0 : (((hwin6 C.toHBufs).rect t).emb y 0).val = t.val / 12 := (hk 0).trans (by show t.val / 12 % 2 * 1 + 1 * (y 0).val = _; omega)
    show hBlk C c A (((hwin6 C.toHBufs).rect t).emb y 0).val (ix3 0 (((hwin6 C.toHBufs).rect t).emb y 1) (((hwin6 C.toHBufs).rect t).emb y 2))
      = hBlk C c A (t.val / 12) y
    rw [k0]
    refine congrArg _ (funext fun a => Fin.ext ?_)
    match a with
    | ⟨0, _⟩ => show 0 = (y 0).val; omega
    | ⟨1, _⟩ => exact (hk 1).trans (by show 0 * 1025 + 1 * (y 1).val = (y 1).val; omega)
    | ⟨2, _⟩ => exact (hk 2).trans (by show 0 * 768 + 1 * (y 2).val = (y 2).val; omega)
  funext i
  have hb : (i 0).val < 2 := (i 0).isLt
  have htN : 12 * (i 0).val + 11 < (hcfg C).N := by rw [show (hcfg C).N = 24 from N_2]; omega
  have h := congrFun ((hdat C c A Rest).read_blk_arrAt 6 _ hG ⟨12 * (i 0).val + 11, htN⟩ ((hflush C _).2 (by show (12 * (i 0).val + 11) % 12 = 11; omega))) (ix3 0 (i 1) (i 2) : S1x1025x768.Idx)
  obtain ⟨-, -, -, -, -, -, e0⟩ := hidx ⟨12 * (i 0).val + 11, htN⟩
  have hk : ((hwin6 C.toHBufs).rect ⟨12 * (i 0).val + 11, htN⟩).emb (ix3 0 (i 1) (i 2) : S1x1025x768.Idx) = i := by
    refine funext fun (a : Fin 3) => Fin.ext ?_
    refine (show _ = cc2_transform_6 (grid2.coords ⟨12 * (i 0).val + 11, htN⟩) a * S1x1025x768.size a + 1 * ((ix3 0 (i 1) (i 2) : S1x1025x768.Idx) a).val from rfl).trans ?_
    rw [e0]
    match a with
    | ⟨0, _⟩ => show (12 * (i 0).val + 11) / 12 % 2 * 1 + 1 * 0 = (i 0).val; omega
    | ⟨1, _⟩ => show 0 * 1025 + 1 * (i 1).val = (i 1).val; omega
    | ⟨2, _⟩ => show 0 * 768 + 1 * (i 2).val = (i 2).val; omega
  refine (congrArg (C.out.view.read (Elt F) ((hdat C c A Rest).arrAt 6 (hcfg C).N)) hk.symm).trans (h.trans ?_)
  refine (congrFun (C.hout.read_unread (hOut C c A)) _).trans ?_
  exact congrArg _ hk

end Dats

end Cert.KernelIdeal.Hand

end
-- ==== Proof.KmatRegion.lean ====
/- The first call, which makes every head's table of keys against queries: two heads at each of its six points. -/
module

public import proofs.«01_k».proof.Proof.HeadRegion
public import Idealize.ShloMosaic.Lib.ValueIdxCoords

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## What the call computes -/

/-- The rows of the positions that stand for the sequence. -/
def kmTop (P : Vec F S1025x768 .f32) : Vec F S1024x768 .f32 := View.ld P (Rect.unit (s := S1025x768) ![0, 0] S1024x768.size inb_S1025x768_S1024x768_0_0)
/-- One head's table, from the positions and the head's two matrices. -/
def kmHead (P : Vec F S1025x768 .f32) (k q : Vec F S1x768x768 .f32) : Vec F S1x1025x1024 .f32 := k0_pay1 (kmTop P) k P q
/-- One of a pair of matrices. -/
def kmSlab (X : Vec F S2x768x768 .f32) (h : Fin 2) : Vec F S1x768x768 .f32 := fun y => X (ix3 h (y 1) (y 2))
/-- Pair `t` of the matrices. -/
def kmPair (X : Vec F S12x768x768 .f32) (t : ℕ) : Vec F S2x768x768 .f32 := fun y => X (ix3 ⟨(t * 2 + (y 0).val) % 12, Nat.mod_lt _ (by decide)⟩ (y 1) (y 2))
/-- The block of one point: two heads' tables. -/
def kmBlk (P : Vec F S1025x768 .f32) (k q : Vec F S2x768x768 .f32) : Vec F S2x1025x1024 .f32 :=
  fun y => kmHead P (kmSlab k (y 0)) (kmSlab q (y 0)) (ix3 0 (y 1) (y 2))
/-- The whole result. -/
def kmArr (P : Vec F S1025x768 .f32) (k q : Vec F S12x768x768 .f32) : Vec F S12x1025x1024 .f32 :=
  fun i => kmHead P (hdV k (i 0).val) (hdV q (i 0).val) (ix3 0 (i 1) (i 2))

theorem kmSlab_pair (X : Vec F S12x768x768 .f32) (t : ℕ) (h : Fin 2) : kmSlab (kmPair X t) h = hdV X (t * 2 + h.val) := rfl
theorem ld_slab0 (X : Vec F S2x768x768 .f32) : View.ld X (Rect.unit (s := S2x768x768) ![0, 0, 0] S1x768x768.size inb_S2x768x768_S1x768x768_0_0_0) = kmSlab X 0 := by
  refine funext fun (y : S1x768x768.Idx) => congrArg X (funext fun (a : Fin 3) => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld_slab1 (X : Vec F S2x768x768 .f32) : View.ld X (Rect.unit (s := S2x768x768) ![1, 0, 0] S1x768x768.size inb_S2x768x768_S1x768x768_1_0_0) = kmSlab X 1 := by
  refine funext fun (y : S1x768x768.Idx) => congrArg X (funext fun (a : Fin 3) => Fin.ext ?_)
  have h0 : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega

set_option maxHeartbeats 1000000 in
/-- One point of the call. -/
theorem km_run (c : Dev nD) (i : grid0.Coords) (arg1 : Memref sig .tc .vmem S1025x768 .f32) (harg1 : arg1.IsWhole) (arg2 : Memref sig .tc .vmem S2x768x768 .f32) (harg2 : arg2.IsWhole) (arg3 : Memref sig .tc .vmem S2x768x768 .f32) (harg3 : arg3.IsWhole) (arg4 : Memref sig .tc .vmem S2x1025x1024 .f32) (harg4 : arg4.IsWhole)
    (x0 : Vec F S1025x768 .f32) (x1 : Vec F S2x768x768 .f32) (x2 : Vec F S2x768x768 .f32) (x3 : Vec F S2x1025x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (iprop(owns (c : Thread nD τ) arg1 fullShare x0 ∗ owns (c : Thread nD τ) arg2 fullShare x1 ∗ owns (c : Thread nD τ) arg3 fullShare x2 ∗ owns (c : Thread nD τ) arg4 fullShare (kmBlk x0 x1 x2)) -∗ K ⟨⟩))
      ⊢ wp frame (wpE (defs₀ (F := F)) Variants.none c none) E (cc0_pgd_kmat i arg1 harg1 arg2 harg2 arg3 harg3 arg4 harg4) K := by
  simp only [cc0_pgd_kmat_eq_skeleton]; unfold cc0_pgd_kmat_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap
  · iexact H3
  ipureintro
  refine funext fun (y : S2x1025x1024.Idx) => ?_
  have h0 : (y 0).val < 2 := (y 0).isLt
  rw [View.readAt_full arg1.view, harg1.read_unread, View.readAt_eq_ld, View.readAt_eq_ld, View.readAt_eq_ld, View.readAt_eq_ld, View.readAt_eq_ld, harg1.read_unread, harg2.read_unread, harg3.read_unread,
    ld_slab0, ld_slab1, ld_slab0, ld_slab1]
  have hj : ∀ j : Fin 2, (y 0).val = j.val → kmBlk x0 x1 x2 y = kmHead x0 (kmSlab x1 j) (kmSlab x2 j) (ix3 0 (y 1) (y 2)) := by
    intro j h
    have : (y 0) = j := Fin.ext h
    show kmHead x0 (kmSlab x1 (y 0)) (kmSlab x2 (y 0)) _ = _
    rw [this]
  by_cases h : (y 0).val = 1
  · refine (View.read_writes_cons_unit_of_mem _ _ _ _ _ y (ix3 0 (y 1) (y 2) : S1x1025x1024.Idx) rfl ?_).trans (hj 1 h).symm
    intro a
    match a with
    | ⟨0, _⟩ => show (y 0).val = 1 + 0; omega
    | ⟨1, _⟩ => show (y 1).val = 0 + (y 1).val; omega
    | ⟨2, _⟩ => show (y 2).val = 0 + (y 2).val; omega
  · refine (View.read_writes_cons_unit_of_not_mem _ _ _ _ _ y rfl (0 : Fin 3) (.inl (show (y 0).val < 1 by omega))).trans ?_
    refine (View.read_writes_cons_unit_of_mem _ _ _ _ _ y (ix3 0 (y 1) (y 2) : S1x1025x1024.Idx) rfl ?_).trans (hj 0 (show (y 0).val = 0 by omega)).symm
    intro a
    match a with
    | ⟨0, _⟩ => show (y 0).val = 0 + 0; omega
    | ⟨1, _⟩ => show (y 1).val = 0 + (y 1).val; omega
    | ⟨2, _⟩ => show (y 2).val = 0 + (y 2).val; omega

/-- Where each window's block lies at point `t`. -/
theorem kmidx : ∀ t : Fin grid0.N, (cc0_transform_0 (grid0.coords t) = ![0, 0]) ∧ (cc0_transform_1 (grid0.coords t) = ![t.val, 0, 0]) ∧ (cc0_transform_2 (grid0.coords t) = ![t.val, 0, 0]) ∧ (cc0_transform_3 (grid0.coords t) = ![t.val, 0, 0]) := by
  decide +kernel

theorem kmflush (t : Fin cfg0.N) : (cfg0.win 3).flush t = true :=
  (by decide +kernel : ∀ t : Fin grid0.N, win0_3.flush t = true) t

section Dats

variable (c : Dev nD) (A : (w : Fin 4) → Buf (Elt F) ((cfg0.win w).arr.view.loc (c.tc : Thread nD τ)))

/-- The input arrays, read. -/
def kmP : Vec F S1025x768 .f32 := (Memref.whole main_arg2).view.read (Elt F) (A 0)
def kmK : Vec F S12x768x768 .f32 := (Memref.whole main_arg3).view.read (Elt F) (A 1)
def kmQ : Vec F S12x768x768 .f32 := (Memref.whole main_arg4).view.read (Elt F) (A 2)

/-- What the windows' buffers hold after the body at point `t`. -/
def kmafter : (w : Fin 4) → Fin grid0.N → ((win0 w).block.Idx → Elt F (win0 w).elt)
  | 0 => fun t => kmP c A
  | 1 => fun t => kmPair (kmK c A) t.val
  | 2 => fun t => kmPair (kmQ c A) t.val
  | 3 => fun t => kmBlk (kmP c A) (kmPair (kmK c A) t.val) (kmPair (kmQ c A) t.val)
  | ⟨_ + 4, h⟩ => absurd h (Nat.not_lt.2 (Nat.le_add_left _ _))

/-- The call's proof data. -/
def kmdat (Rest : sProp 𝕄) : Dat τ (Elt F) Unit ℕ (UR sig nD τ) ℕ cfg0 c where
  A := A
  after := kmafter c A
  Φ _ := Rest
  q _ := fullShare
  owed _ := 0

theorem kmblk0 (Rest : sProp 𝕄) (t : Fin cfg0.N) : (kmdat c A Rest).blockOf 0 t = kmP c A := by
  obtain ⟨e0, -, -, -⟩ := kmidx t
  have ht : t.val < 6 := Nat.lt_of_lt_of_eq t.isLt N_0
  refine funext fun (y : S1025x768.Idx) => congrArg (kmP c A) (funext fun a => Fin.ext ?_)
  refine (show _ = cc0_transform_0 (grid0.coords t) a * S1025x768.size a + 1 * (y a).val from rfl).trans ?_
  rw [e0]
  have h0 : (y 0).val < 1025 := (y 0).isLt
  match a with
  | ⟨0, _⟩ => show 0 * 1025 + 1 * (y 0).val = (y 0).val; omega
  | ⟨1, _⟩ => show 0 * 768 + 1 * (y 1).val = (y 1).val; omega

theorem kmbef0 (Rest : sProp 𝕄) (t : Fin cfg0.N) (d) : (kmdat c A Rest).before 0 t d = kmP c A :=
  ((kmdat c A Rest).before_in_eq_fetched 0 rfl (fun _ => rfl) (fun _ _ _ => rfl) (fun t => (kmblk0 c A Rest t).symm) t d).trans (kmblk0 c A Rest t)

theorem kmblk1 (Rest : sProp 𝕄) (t : Fin cfg0.N) : (kmdat c A Rest).blockOf 1 t = kmPair (kmK c A) t.val := by
  obtain ⟨-, e0, -, -⟩ := kmidx t
  have ht : t.val < 6 := Nat.lt_of_lt_of_eq t.isLt N_0
  refine funext fun (y : S2x768x768.Idx) => congrArg (kmK c A) (funext fun a => Fin.ext ?_)
  refine (show _ = cc0_transform_1 (grid0.coords t) a * S2x768x768.size a + 1 * (y a).val from rfl).trans ?_
  rw [e0]
  have h0 : (y 0).val < 2 := (y 0).isLt
  match a with
  | ⟨0, _⟩ => show t.val * 2 + 1 * (y 0).val = (t.val * 2 + (y 0).val) % 12; omega
  | ⟨1, _⟩ => show 0 * 768 + 1 * (y 1).val = (y 1).val; omega
  | ⟨2, _⟩ => show 0 * 768 + 1 * (y 2).val = (y 2).val; omega

theorem kmbef1 (Rest : sProp 𝕄) (t : Fin cfg0.N) (d) : (kmdat c A Rest).before 1 t d = kmPair (kmK c A) t.val :=
  ((kmdat c A Rest).before_in_eq_fetched 1 rfl (fun _ => rfl) (fun _ _ _ => rfl) (fun t => (kmblk1 c A Rest t).symm) t d).trans (kmblk1 c A Rest t)

theorem kmblk2 (Rest : sProp 𝕄) (t : Fin cfg0.N) : (kmdat c A Rest).blockOf 2 t = kmPair (kmQ c A) t.val := by
  obtain ⟨-, -, e0, -⟩ := kmidx t
  have ht : t.val < 6 := Nat.lt_of_lt_of_eq t.isLt N_0
  refine funext fun (y : S2x768x768.Idx) => congrArg (kmQ c A) (funext fun a => Fin.ext ?_)
  refine (show _ = cc0_transform_2 (grid0.coords t) a * S2x768x768.size a + 1 * (y a).val from rfl).trans ?_
  rw [e0]
  have h0 : (y 0).val < 2 := (y 0).isLt
  match a with
  | ⟨0, _⟩ => show t.val * 2 + 1 * (y 0).val = (t.val * 2 + (y 0).val) % 12; omega
  | ⟨1, _⟩ => show 0 * 768 + 1 * (y 1).val = (y 1).val; omega
  | ⟨2, _⟩ => show 0 * 768 + 1 * (y 2).val = (y 2).val; omega

theorem kmbef2 (Rest : sProp 𝕄) (t : Fin cfg0.N) (d) : (kmdat c A Rest).before 2 t d = kmPair (kmQ c A) t.val :=
  ((kmdat c A Rest).before_in_eq_fetched 2 rfl (fun _ => rfl) (fun _ _ _ => rfl) (fun t => (kmblk2 c A Rest t).symm) t d).trans (kmblk2 c A Rest t)

abbrev kmst (t : Fin cfg0.N) (w : Fin 4) := (cfg0.win w).stage (cfg0.slots t w)

theorem kmleave0 (Rest : sProp 𝕄) (t : Fin cfg0.N) : (kmdat c A Rest).leavesExact 0 t = owns (c : Thread nD τ) (kmst t 0) fullShare (kmP c A) := rfl
theorem kmleave1 (Rest : sProp 𝕄) (t : Fin cfg0.N) : (kmdat c A Rest).leavesExact 1 t = owns (c : Thread nD τ) (kmst t 1) fullShare (kmPair (kmK c A) t.val) := rfl
theorem kmleave2 (Rest : sProp 𝕄) (t : Fin cfg0.N) : (kmdat c A Rest).leavesExact 2 t = owns (c : Thread nD τ) (kmst t 2) fullShare (kmPair (kmQ c A) t.val) := rfl
theorem kmleave3 (Rest : sProp 𝕄) (t : Fin cfg0.N) : (kmdat c A Rest).leavesExact 3 t = owns (c : Thread nD τ) (kmst t 3) fullShare (kmBlk (kmP c A) (kmPair (kmK c A) t.val) (kmPair (kmQ c A) t.val)) := rfl

theorem kmbody_pt (Rest : sProp 𝕄) (t : Fin cfg0.N) :
    iprop((kmdat c A Rest).Φ t.castSucc ∗ (kmdat c A Rest).owesAt () t.castSucc
        ∗ (∃ d, owns (c : Thread nD τ) (kmst t 0) fullShare ((kmdat c A Rest).before 0 t d)) ∗ (∃ d, owns (c : Thread nD τ) (kmst t 1) fullShare ((kmdat c A Rest).before 1 t d)) ∗ (∃ d, owns (c : Thread nD τ) (kmst t 2) fullShare ((kmdat c A Rest).before 2 t d)) ∗ (∃ d, owns (c : Thread nD τ) (kmst t 3) fullShare ((kmdat c A Rest).before 3 t d)))
      ⊢ wp frame (wpE (defs₀ (F := F)) Variants.none c none) Set.univ (defs₀ (F := F) .tc 0 (t, cfg0.slots t)) fun _ =>
        iprop((kmdat c A Rest).Φ t.succ ∗ (kmdat c A Rest).owesAt () t.succ
          ∗ (kmdat c A Rest).leavesExact 0 t ∗ (kmdat c A Rest).leavesExact 1 t ∗ (kmdat c A Rest).leavesExact 2 t ∗ (kmdat c A Rest).leavesExact 3 t) := by
  rw [kmleave0, kmleave1, kmleave2, kmleave3, show (kmdat c A Rest).owesAt () t.succ = (kmdat c A Rest).owesAt () t.castSucc from rfl,
    show (kmdat c A Rest).Φ t.succ = (kmdat c A Rest).Φ t.castSucc from rfl]
  iintro ⟨HΦ, HO, H0, H1, H2, H3⟩
  icases H0 with ⟨%d0, H0⟩
  icases H1 with ⟨%d1, H1⟩
  icases H2 with ⟨%d2, H2⟩
  icases H3 with ⟨%d3, H3⟩
  rw [kmbef0, kmbef1, kmbef2]
  iapply (km_run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3))
    (kmP c A) (kmPair (kmK c A) t.val) (kmPair (kmQ c A) t.val) ((kmdat c A Rest).before 3 t d3) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

theorem kmbody (Rest : sProp 𝕄) : Pipeline.BodyObligation (kmdat c A Rest) (defs₀ (F := F)) Variants.none () Set.univ := fun t => by
  rw [bigSep_W0, bigSep_W0]
  exact triple_restated (kmbody_pt c A Rest t) rfl .rfl fun _ => .rfl

/-- What the output array reads as at the end. -/
def kmOut : Vec F S12x1025x1024 .f32 := kmArr (kmP c A) (kmK c A) (kmQ c A)

theorem kmread (Rest : sProp 𝕄) : (Memref.whole main_v2).view.read (Elt F) ((kmdat c A Rest).arrAt 3 cfg0.N) = kmOut c A := by
  have hw : (Memref.whole main_v2 : Memref sig .tc .hbm S12x1025x1024 .f32).IsWhole := Memref.isWhole_whole _
  have hG : ∀ t, (cfg0.win 3).flush t = true → (kmdat c A Rest).flushed 3 t
      = ((cfg0.win 3).blk t).view.read (Elt F) (hw.unread (kmOut c A)) := by
    intro t hf
    obtain ⟨-, -, -, e0⟩ := kmidx t
    have ht : t.val < 6 := Nat.lt_of_lt_of_eq t.isLt N_0
    have hr : ∀ i, (Memref.whole main_v2).view.read (Elt F) (hw.unread (kmOut c A)) i = kmOut c A i := congrFun (hw.read_unread _)
    refine funext fun (y : S2x1025x1024.Idx) => Eq.symm ((hr _).trans ?_)
    have hk : ∀ a : Fin 3, ((win0_3.rect t).emb y a).val = cc0_transform_3 (grid0.coords t) a * S2x1025x1024.size a + 1 * (y a).val := fun _ => rfl
    rw [e0] at hk
    have h0 : (y 0).val < 2 := (y 0).isLt
    have k0 : ((win0_3.rect t).emb y 0).val = t.val * 2 + (y 0).val := (hk 0).trans (by show t.val * 2 + 1 * (y 0).val = _; omega)
    show kmHead (kmP c A) (hdV (kmK c A) ((win0_3.rect t).emb y 0).val) (hdV (kmQ c A) ((win0_3.rect t).emb y 0).val) (ix3 0 ((win0_3.rect t).emb y 1) ((win0_3.rect t).emb y 2))
      = kmHead (kmP c A) (hdV (kmK c A) (t.val * 2 + (y 0).val)) (hdV (kmQ c A) (t.val * 2 + (y 0).val)) (ix3 0 (y 1) (y 2))
    rw [k0]
    refine congrArg _ (funext fun a => Fin.ext ?_)
    match a with
    | ⟨0, _⟩ => rfl
    | ⟨1, _⟩ => exact (hk 1).trans (by show 0 * 1025 + 1 * (y 1).val = (y 1).val; omega)
    | ⟨2, _⟩ => exact (hk 2).trans (by show 0 * 1024 + 1 * (y 2).val = (y 2).val; omega)

  funext i
  have hb : (i 0).val < 12 := (i 0).isLt
  have htN : (i 0).val / 2 < cfg0.N := by rw [show cfg0.N = 6 from N_0]; omega
  have h := congrFun ((kmdat c A Rest).read_blk_arrAt 3 _ hG ⟨(i 0).val / 2, htN⟩ (kmflush _)) (ix3 ⟨(i 0).val % 2, Nat.mod_lt _ (by decide)⟩ (i 1) (i 2) : S2x1025x1024.Idx)
  obtain ⟨-, -, -, e0⟩ := kmidx ⟨(i 0).val / 2, htN⟩
  have hk : (win0_3.rect ⟨(i 0).val / 2, htN⟩).emb (ix3 ⟨(i 0).val % 2, Nat.mod_lt _ (by decide)⟩ (i 1) (i 2) : S2x1025x1024.Idx) = i := by
    refine funext fun (a : Fin 3) => Fin.ext ?_
    refine (show _ = cc0_transform_3 (grid0.coords ⟨(i 0).val / 2, htN⟩) a * S2x1025x1024.size a + 1 * ((ix3 ⟨(i 0).val % 2, Nat.mod_lt _ (by decide)⟩ (i 1) (i 2) : S2x1025x1024.Idx) a).val from rfl).trans ?_
    rw [e0]
    match a with
    | ⟨0, _⟩ => show (i 0).val / 2 * 2 + 1 * ((i 0).val % 2) = (i 0).val; omega
    | ⟨1, _⟩ => show 0 * 1025 + 1 * (i 1).val = (i 1).val; omega
    | ⟨2, _⟩ => show 0 * 1024 + 1 * (i 2).val = (i 2).val; omega
  refine (congrArg ((Memref.whole main_v2).view.read (Elt F) ((kmdat c A Rest).arrAt 3 cfg0.N)) hk.symm).trans (h.trans ?_)
  refine (congrFun (hw.read_unread (kmOut c A)) _).trans ?_
  exact congrArg _ hk

end Dats

end Cert.KernelIdeal.Hand

end
-- ==== Proof.LogitsRegion.lean ====
/- The last call, which multiplies the last rows by the vocabulary, a tenth of it at each point. -/
module

public import proofs.«01_k».proof.Proof.HeadRegion
public import Idealize.ShloMosaic.Lib.ValueIdxCoords

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## What the call computes -/

/-- Block `t` of the vocabulary. -/
def lgW (X : Vec F S32000x768 .f32) (t : ℕ) : Vec F S3200x768 .f32 := fun y => X (ix2 ⟨(t * 3200 + (y 0).val) % 32000, Nat.mod_lt _ (by decide)⟩ (y 1))
/-- The whole result. -/
def lgArr (x : Vec F S8x768 .f32) (W : Vec F S32000x768 .f32) : Vec F S8x32000 .f32 :=
  fun i => k13_pay1 x (lgW W ((i 1).val / 3200)) (ix2 (i 0) ⟨(i 1).val % 3200, Nat.mod_lt _ (by decide)⟩)

set_option maxHeartbeats 1000000 in
/-- One point of the call. -/
theorem lg_run (c : Dev nD) (i : grid13.Coords) (arg1 : Memref sig .tc .vmem S8x768 .f32) (harg1 : arg1.IsWhole) (arg2 : Memref sig .tc .vmem S3200x768 .f32) (harg2 : arg2.IsWhole) (arg3 : Memref sig .tc .vmem S8x3200 .f32) (harg3 : arg3.IsWhole)
    (x0 : Vec F S8x768 .f32) (x1 : Vec F S3200x768 .f32) (x2 : Vec F S8x3200 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (iprop(owns (c : Thread nD τ) arg1 fullShare x0 ∗ owns (c : Thread nD τ) arg2 fullShare x1 ∗ owns (c : Thread nD τ) arg3 fullShare (k13_pay1 x0 x1)) -∗ K ⟨⟩))
      ⊢ wp frame (wpE (defs₀ (F := F)) Variants.none c none) E (cc13_pgd_logits i arg1 harg1 arg2 harg2 arg3 harg3) K := by
  simp only [cc13_pgd_logits_eq_skeleton]; unfold cc13_pgd_logits_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap
  · iexact H2
  ipureintro
  refine (View.read_writes_full _ _ _ _ _).trans ?_
  rw [View.readAt_full arg1.view, harg1.read_unread, View.readAt_full arg2.view, harg2.read_unread]

/-- Where each window's block lies at point `t`. -/
theorem lgidx : ∀ t : Fin grid13.N, (cc13_transform_0 (grid13.coords t) = ![0, 0]) ∧ (cc13_transform_1 (grid13.coords t) = ![t.val, 0]) ∧ (cc13_transform_2 (grid13.coords t) = ![0, t.val]) := by
  decide +kernel

theorem lgflush (t : Fin cfg13.N) : (cfg13.win 2).flush t = true :=
  (by decide +kernel : ∀ t : Fin grid13.N, win13_2.flush t = true) t

section Dats

variable (c : Dev nD) (A : (w : Fin 3) → Buf (Elt F) ((cfg13.win w).arr.view.loc (c.tc : Thread nD τ)))

/-- The input arrays, read. -/
def lgX : Vec F S8x768 .f32 := (Memref.whole main_v18).view.read (Elt F) (A 0)
def lgV : Vec F S32000x768 .f32 := (Memref.whole main_arg1).view.read (Elt F) (A 1)

/-- What the windows' buffers hold after the body at point `t`. -/
def lgafter : (w : Fin 3) → Fin grid13.N → ((win13 w).block.Idx → Elt F (win13 w).elt)
  | 0 => fun t => lgX c A
  | 1 => fun t => lgW (lgV c A) t.val
  | 2 => fun t => k13_pay1 (lgX c A) (lgW (lgV c A) t.val)
  | ⟨_ + 3, h⟩ => absurd h (Nat.not_lt.2 (Nat.le_add_left _ _))

/-- The call's proof data. -/
def lgdat (Rest : sProp 𝕄) : Dat τ (Elt F) Unit ℕ (UR sig nD τ) ℕ cfg13 c where
  A := A
  after := lgafter c A
  Φ _ := Rest
  q _ := fullShare
  owed _ := 0

theorem lgblk0 (Rest : sProp 𝕄) (t : Fin cfg13.N) : (lgdat c A Rest).blockOf 0 t = lgX c A := by
  obtain ⟨e0, -, -⟩ := lgidx t
  have ht : t.val < 10 := Nat.lt_of_lt_of_eq t.isLt N_13
  refine funext fun (y : S8x768.Idx) => congrArg (lgX c A) (funext fun a => Fin.ext ?_)
  refine (show _ = cc13_transform_0 (grid13.coords t) a * S8x768.size a + 1 * (y a).val from rfl).trans ?_
  rw [e0]
  have h0 : (y 0).val < 8 := (y 0).isLt
  match a with
  | ⟨0, _⟩ => show 0 * 8 + 1 * (y 0).val = (y 0).val; omega
  | ⟨1, _⟩ => show 0 * 768 + 1 * (y 1).val = (y 1).val; omega

theorem lgbef0 (Rest : sProp 𝕄) (t : Fin cfg13.N) (d) : (lgdat c A Rest).before 0 t d = lgX c A :=
  ((lgdat c A Rest).before_in_eq_fetched 0 rfl (fun _ => rfl) (fun _ _ _ => rfl) (fun t => (lgblk0 c A Rest t).symm) t d).trans (lgblk0 c A Rest t)

theorem lgblk1 (Rest : sProp 𝕄) (t : Fin cfg13.N) : (lgdat c A Rest).blockOf 1 t = lgW (lgV c A) t.val := by
  obtain ⟨-, e0, -⟩ := lgidx t
  have ht : t.val < 10 := Nat.lt_of_lt_of_eq t.isLt N_13
  refine funext fun (y : S3200x768.Idx) => congrArg (lgV c A) (funext fun a => Fin.ext ?_)
  refine (show _ = cc13_transform_1 (grid13.coords t) a * S3200x768.size a + 1 * (y a).val from rfl).trans ?_
  rw [e0]
  have h0 : (y 0).val < 3200 := (y 0).isLt
  match a with
  | ⟨0, _⟩ => show t.val * 3200 + 1 * (y 0).val = (t.val * 3200 + (y 0).val) % 32000; omega
  | ⟨1, _⟩ => show 0 * 768 + 1 * (y 1).val = (y 1).val; omega

theorem lgbef1 (Rest : sProp 𝕄) (t : Fin cfg13.N) (d) : (lgdat c A Rest).before 1 t d = lgW (lgV c A) t.val :=
  ((lgdat c A Rest).before_in_eq_fetched 1 rfl (fun _ => rfl) (fun _ _ _ => rfl) (fun t => (lgblk1 c A Rest t).symm) t d).trans (lgblk1 c A Rest t)

abbrev lgst (t : Fin cfg13.N) (w : Fin 3) := (cfg13.win w).stage (cfg13.slots t w)

theorem lgleave0 (Rest : sProp 𝕄) (t : Fin cfg13.N) : (lgdat c A Rest).leavesExact 0 t = owns (c : Thread nD τ) (lgst t 0) fullShare (lgX c A) := rfl
theorem lgleave1 (Rest : sProp 𝕄) (t : Fin cfg13.N) : (lgdat c A Rest).leavesExact 1 t = owns (c : Thread nD τ) (lgst t 1) fullShare (lgW (lgV c A) t.val) := rfl
theorem lgleave2 (Rest : sProp 𝕄) (t : Fin cfg13.N) : (lgdat c A Rest).leavesExact 2 t = owns (c : Thread nD τ) (lgst t 2) fullShare (k13_pay1 (lgX c A) (lgW (lgV c A) t.val)) := rfl

theorem lgbody_pt (Rest : sProp 𝕄) (t : Fin cfg13.N) :
    iprop((lgdat c A Rest).Φ t.castSucc ∗ (lgdat c A Rest).owesAt () t.castSucc
        ∗ (∃ d, owns (c : Thread nD τ) (lgst t 0) fullShare ((lgdat c A Rest).before 0 t d)) ∗ (∃ d, owns (c : Thread nD τ) (lgst t 1) fullShare ((lgdat c A Rest).before 1 t d)) ∗ (∃ d, owns (c : Thread nD τ) (lgst t 2) fullShare ((lgdat c A Rest).before 2 t d)))
      ⊢ wp frame (wpE (defs₀ (F := F)) Variants.none c none) Set.univ (defs₀ (F := F) .tc 13 (t, cfg13.slots t)) fun _ =>
        iprop((lgdat c A Rest).Φ t.succ ∗ (lgdat c A Rest).owesAt () t.succ
          ∗ (lgdat c A Rest).leavesExact 0 t ∗ (lgdat c A Rest).leavesExact 1 t ∗ (lgdat c A Rest).leavesExact 2 t) := by
  rw [lgleave0, lgleave1, lgleave2, show (lgdat c A Rest).owesAt () t.succ = (lgdat c A Rest).owesAt () t.castSucc from rfl,
    show (lgdat c A Rest).Φ t.succ = (lgdat c A Rest).Φ t.castSucc from rfl]
  iintro ⟨HΦ, HO, H0, H1, H2⟩
  icases H0 with ⟨%d0, H0⟩
  icases H1 with ⟨%d1, H1⟩
  icases H2 with ⟨%d2, H2⟩
  rw [lgbef0, lgbef1]
  iapply (lg_run c (grid13.coords t) _ (hstage13_0 ((cfg13.slots t 0).cast nbuf13_0)) _ (hstage13_1 ((cfg13.slots t 1).cast nbuf13_1)) _ (hstage13_2 ((cfg13.slots t 2).cast nbuf13_2))
    (lgX c A) (lgW (lgV c A) t.val) ((lgdat c A Rest).before 2 t d2) Set.univ _)
  isplitl [H0]; · iexact H0
  isplitl [H1]; · iexact H1
  isplitl [H2]; · iexact H2
  iintro ⟨H0, H1, H2⟩
  isplitl [HΦ]; · iexact HΦ
  isplitl [HO]; · iexact HO
  isplitl [H0]; · iexact H0
  isplitl [H1]; · iexact H1
  iexact H2

theorem lgbody (Rest : sProp 𝕄) : Pipeline.BodyObligation (lgdat c A Rest) (defs₀ (F := F)) Variants.none () Set.univ := fun t => by
  rw [bigSep_W13, bigSep_W13]
  exact triple_restated (lgbody_pt c A Rest t) rfl .rfl fun _ => .rfl

/-- What the output array reads as at the end. -/
def lgOut : Vec F S8x32000 .f32 := lgArr (lgX c A) (lgV c A)

theorem lgread (Rest : sProp 𝕄) : (Memref.whole main_v19).view.read (Elt F) ((lgdat c A Rest).arrAt 2 cfg13.N) = lgOut c A := by
  have hw : (Memref.whole main_v19 : Memref sig .tc .hbm S8x32000 .f32).IsWhole := Memref.isWhole_whole _
  have hG : ∀ t, (cfg13.win 2).flush t = true → (lgdat c A Rest).flushed 2 t
      = ((cfg13.win 2).blk t).view.read (Elt F) (hw.unread (lgOut c A)) := by
    intro t hf
    obtain ⟨-, -, e0⟩ := lgidx t
    have ht : t.val < 10 := Nat.lt_of_lt_of_eq t.isLt N_13
    have hr : ∀ i, (Memref.whole main_v19).view.read (Elt F) (hw.unread (lgOut c A)) i = lgOut c A i := congrFun (hw.read_unread _)
    refine funext fun (y : S8x3200.Idx) => Eq.symm ((hr _).trans ?_)
    have hk : ∀ a : Fin 2, ((win13_2.rect t).emb y a).val = cc13_transform_2 (grid13.coords t) a * S8x3200.size a + 1 * (y a).val := fun _ => rfl
    rw [e0] at hk
    have h1 : (y 1).val < 3200 := (y 1).isLt
    have k1 : ((win13_2.rect t).emb y 1).val = t.val * 3200 + (y 1).val := (hk 1).trans (by show t.val * 3200 + 1 * (y 1).val = _; omega)
    show k13_pay1 (lgX c A) (lgW (lgV c A) (((win13_2.rect t).emb y 1).val / 3200)) (ix2 ((win13_2.rect t).emb y 0) ⟨((win13_2.rect t).emb y 1).val % 3200, _⟩)
      = k13_pay1 (lgX c A) (lgW (lgV c A) t.val) y
    rw [show ((win13_2.rect t).emb y 1).val / 3200 = t.val by omega]
    refine congrArg _ (funext fun a => Fin.ext ?_)
    match a with
    | ⟨0, _⟩ => exact (hk 0).trans (by show 0 * 8 + 1 * (y 0).val = (y 0).val; omega)
    | ⟨1, _⟩ => show ((win13_2.rect t).emb y 1).val % 3200 = (y 1).val; omega

  funext i
  have hb : (i 1).val < 32000 := (i 1).isLt
  have htN : (i 1).val / 3200 < cfg13.N := by rw [show cfg13.N = 10 from N_13]; omega
  have h := congrFun ((lgdat c A Rest).read_blk_arrAt 2 _ hG ⟨(i 1).val / 3200, htN⟩ (lgflush _)) (ix2 (i 0) ⟨(i 1).val % 3200, Nat.mod_lt _ (by decide)⟩ : S8x3200.Idx)
  obtain ⟨-, -, e0⟩ := lgidx ⟨(i 1).val / 3200, htN⟩
  have hk : (win13_2.rect ⟨(i 1).val / 3200, htN⟩).emb (ix2 (i 0) ⟨(i 1).val % 3200, Nat.mod_lt _ (by decide)⟩ : S8x3200.Idx) = i := by
    refine funext fun (a : Fin 2) => Fin.ext ?_
    refine (show _ = cc13_transform_2 (grid13.coords ⟨(i 1).val / 3200, htN⟩) a * S8x3200.size a + 1 * ((ix2 (i 0) ⟨(i 1).val % 3200, Nat.mod_lt _ (by decide)⟩ : S8x3200.Idx) a).val from rfl).trans ?_
    rw [e0]
    match a with
    | ⟨0, _⟩ => show 0 * 8 + 1 * (i 0).val = (i 0).val; omega
    | ⟨1, _⟩ => show (i 1).val / 3200 * 3200 + 1 * ((i 1).val % 3200) = (i 1).val; omega
  refine (congrArg ((Memref.whole main_v19).view.read (Elt F) ((lgdat c A Rest).arrAt 2 cfg13.N)) hk.symm).trans (h.trans ?_)
  refine (congrFun (hw.read_unread (lgOut c A)) _).trans ?_
  exact congrArg _ hk

end Dats

end Cert.KernelIdeal.Hand

end
-- ==== Proof.Calls.lean ====
/- The twelve calls over the arrays: the vocabulary call and the head call at the buffers of each of the six steps, and how
   what a core holds outside the windows starts and ends each of the fourteen kernel regions. -/
module

public import proofs.«01_k».proof.Proof.KmatRegion
public import proofs.«01_k».proof.Proof.LogitsRegion
public import proofs.«01_k».proof.Proof.Gen.KernelIdeal.Regions
public import Idealize.ShloMosaic.Lib.Pipeline.RegionArraysS

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## The calls of the six steps -/

/-- The vocabulary call of step 1. -/
abbrev voc0 : VCall F where
  f := Memref.whole main_v3
  hf := Memref.isWhole_whole _
  we := Memref.whole main_arg1
  hwe := Memref.isWhole_whole _
  e := Memref.whole main_arg0
  he := Memref.isWhole_whole _
  out := Memref.whole main_v4
  hout := Memref.isWhole_whole _
  st0 := stage1_0
  hst0 := hstage1_0
  sem0 := sem1_0
  st1 := stage1_1
  hst1 := hstage1_1
  sem1 := sem1_1
  st2 := stage1_2
  hst2 := hstage1_2
  sem2 := sem1_2
  st3 := stage1_3
  hst3 := hstage1_3
  sem3 := sem1_3
  num := Memref.whole cc1_scratch0
  hnum := Memref.isWhole_whole _
  den := Memref.whole cc1_scratch1
  hden := Memref.isWhole_whole _
  body := 1
  args t s := (t, s)
  hrow _ _ := rfl

/-- The head call of step 1. -/
abbrev hd0 : HCall F where
  x := Memref.whole main_v4
  hx := Memref.isWhole_whole _
  k := Memref.whole main_v2
  hk := Memref.isWhole_whole _
  v := Memref.whole main_arg5
  hv := Memref.isWhole_whole _
  f := Memref.whole main_v3
  hf := Memref.isWhole_whole _
  a := Memref.whole main_v0
  ha := Memref.isWhole_whole _
  b := Memref.whole main_v1
  hb := Memref.isWhole_whole _
  out := Memref.whole main_v5
  hout := Memref.isWhole_whole _
  st0 := stage2_0
  hst0 := hstage2_0
  sem0 := sem2_0
  st1 := stage2_1
  hst1 := hstage2_1
  sem1 := sem2_1
  st2 := stage2_2
  hst2 := hstage2_2
  sem2 := sem2_2
  st3 := stage2_3
  hst3 := hstage2_3
  sem3 := sem2_3
  st4 := stage2_4
  hst4 := hstage2_4
  sem4 := sem2_4
  st5 := stage2_5
  hst5 := hstage2_5
  sem5 := sem2_5
  st6 := stage2_6
  hst6 := hstage2_6
  sem6 := sem2_6
  acc := Memref.whole cc2_scratch0
  hacc := Memref.isWhole_whole _
  body := 2
  args t s := (t, s)
  hrow _ _ := rfl

/-- The vocabulary call of step 2. -/
abbrev voc1 : VCall F where
  f := Memref.whole main_v5
  hf := Memref.isWhole_whole _
  we := Memref.whole main_arg1
  hwe := Memref.isWhole_whole _
  e := Memref.whole main_arg0
  he := Memref.isWhole_whole _
  out := Memref.whole main_v6
  hout := Memref.isWhole_whole _
  st0 := stage3_0
  hst0 := hstage3_0
  sem0 := sem3_0
  st1 := stage3_1
  hst1 := hstage3_1
  sem1 := sem3_1
  st2 := stage3_2
  hst2 := hstage3_2
  sem2 := sem3_2
  st3 := stage3_3
  hst3 := hstage3_3
  sem3 := sem3_3
  num := Memref.whole cc3_scratch0
  hnum := Memref.isWhole_whole _
  den := Memref.whole cc3_scratch1
  hden := Memref.isWhole_whole _
  body := 3
  args t s := (t, s)
  hrow _ _ := rfl

/-- The head call of step 2. -/
abbrev hd1 : HCall F where
  x := Memref.whole main_v6
  hx := Memref.isWhole_whole _
  k := Memref.whole main_v2
  hk := Memref.isWhole_whole _
  v := Memref.whole main_arg5
  hv := Memref.isWhole_whole _
  f := Memref.whole main_v5
  hf := Memref.isWhole_whole _
  a := Memref.whole main_v0
  ha := Memref.isWhole_whole _
  b := Memref.whole main_v1
  hb := Memref.isWhole_whole _
  out := Memref.whole main_v7
  hout := Memref.isWhole_whole _
  st0 := stage4_0
  hst0 := hstage4_0
  sem0 := sem4_0
  st1 := stage4_1
  hst1 := hstage4_1
  sem1 := sem4_1
  st2 := stage4_2
  hst2 := hstage4_2
  sem2 := sem4_2
  st3 := stage4_3
  hst3 := hstage4_3
  sem3 := sem4_3
  st4 := stage4_4
  hst4 := hstage4_4
  sem4 := sem4_4
  st5 := stage4_5
  hst5 := hstage4_5
  sem5 := sem4_5
  st6 := stage4_6
  hst6 := hstage4_6
  sem6 := sem4_6
  acc := Memref.whole cc4_scratch0
  hacc := Memref.isWhole_whole _
  body := 4
  args t s := (t, s)
  hrow _ _ := rfl

/-- The vocabulary call of step 3. -/
abbrev voc2 : VCall F where
  f := Memref.whole main_v7
  hf := Memref.isWhole_whole _
  we := Memref.whole main_arg1
  hwe := Memref.isWhole_whole _
  e := Memref.whole main_arg0
  he := Memref.isWhole_whole _
  out := Memref.whole main_v8
  hout := Memref.isWhole_whole _
  st0 := stage5_0
  hst0 := hstage5_0
  sem0 := sem5_0
  st1 := stage5_1
  hst1 := hstage5_1
  sem1 := sem5_1
  st2 := stage5_2
  hst2 := hstage5_2
  sem2 := sem5_2
  st3 := stage5_3
  hst3 := hstage5_3
  sem3 := sem5_3
  num := Memref.whole cc5_scratch0
  hnum := Memref.isWhole_whole _
  den := Memref.whole cc5_scratch1
  hden := Memref.isWhole_whole _
  body := 5
  args t s := (t, s)
  hrow _ _ := rfl

/-- The head call of step 3. -/
abbrev hd2 : HCall F where
  x := Memref.whole main_v8
  hx := Memref.isWhole_whole _
  k := Memref.whole main_v2
  hk := Memref.isWhole_whole _
  v := Memref.whole main_arg5
  hv := Memref.isWhole_whole _
  f := Memref.whole main_v7
  hf := Memref.isWhole_whole _
  a := Memref.whole main_v0
  ha := Memref.isWhole_whole _
  b := Memref.whole main_v1
  hb := Memref.isWhole_whole _
  out := Memref.whole main_v9
  hout := Memref.isWhole_whole _
  st0 := stage6_0
  hst0 := hstage6_0
  sem0 := sem6_0
  st1 := stage6_1
  hst1 := hstage6_1
  sem1 := sem6_1
  st2 := stage6_2
  hst2 := hstage6_2
  sem2 := sem6_2
  st3 := stage6_3
  hst3 := hstage6_3
  sem3 := sem6_3
  st4 := stage6_4
  hst4 := hstage6_4
  sem4 := sem6_4
  st5 := stage6_5
  hst5 := hstage6_5
  sem5 := sem6_5
  st6 := stage6_6
  hst6 := hstage6_6
  sem6 := sem6_6
  acc := Memref.whole cc6_scratch0
  hacc := Memref.isWhole_whole _
  body := 6
  args t s := (t, s)
  hrow _ _ := rfl

/-- The vocabulary call of step 4. -/
abbrev voc3 : VCall F where
  f := Memref.whole main_v9
  hf := Memref.isWhole_whole _
  we := Memref.whole main_arg1
  hwe := Memref.isWhole_whole _
  e := Memref.whole main_arg0
  he := Memref.isWhole_whole _
  out := Memref.whole main_v10
  hout := Memref.isWhole_whole _
  st0 := stage7_0
  hst0 := hstage7_0
  sem0 := sem7_0
  st1 := stage7_1
  hst1 := hstage7_1
  sem1 := sem7_1
  st2 := stage7_2
  hst2 := hstage7_2
  sem2 := sem7_2
  st3 := stage7_3
  hst3 := hstage7_3
  sem3 := sem7_3
  num := Memref.whole cc7_scratch0
  hnum := Memref.isWhole_whole _
  den := Memref.whole cc7_scratch1
  hden := Memref.isWhole_whole _
  body := 7
  args t s := (t, s)
  hrow _ _ := rfl

/-- The head call of step 4. -/
abbrev hd3 : HCall F where
  x := Memref.whole main_v10
  hx := Memref.isWhole_whole _
  k := Memref.whole main_v2
  hk := Memref.isWhole_whole _
  v := Memref.whole main_arg5
  hv := Memref.isWhole_whole _
  f := Memref.whole main_v9
  hf := Memref.isWhole_whole _
  a := Memref.whole main_v0
  ha := Memref.isWhole_whole _
  b := Memref.whole main_v1
  hb := Memref.isWhole_whole _
  out := Memref.whole main_v11
  hout := Memref.isWhole_whole _
  st0 := stage8_0
  hst0 := hstage8_0
  sem0 := sem8_0
  st1 := stage8_1
  hst1 := hstage8_1
  sem1 := sem8_1
  st2 := stage8_2
  hst2 := hstage8_2
  sem2 := sem8_2
  st3 := stage8_3
  hst3 := hstage8_3
  sem3 := sem8_3
  st4 := stage8_4
  hst4 := hstage8_4
  sem4 := sem8_4
  st5 := stage8_5
  hst5 := hstage8_5
  sem5 := sem8_5
  st6 := stage8_6
  hst6 := hstage8_6
  sem6 := sem8_6
  acc := Memref.whole cc8_scratch0
  hacc := Memref.isWhole_whole _
  body := 8
  args t s := (t, s)
  hrow _ _ := rfl

/-- The vocabulary call of step 5. -/
abbrev voc4 : VCall F where
  f := Memref.whole main_v11
  hf := Memref.isWhole_whole _
  we := Memref.whole main_arg1
  hwe := Memref.isWhole_whole _
  e := Memref.whole main_arg0
  he := Memref.isWhole_whole _
  out := Memref.whole main_v12
  hout := Memref.isWhole_whole _
  st0 := stage9_0
  hst0 := hstage9_0
  sem0 := sem9_0
  st1 := stage9_1
  hst1 := hstage9_1
  sem1 := sem9_1
  st2 := stage9_2
  hst2 := hstage9_2
  sem2 := sem9_2
  st3 := stage9_3
  hst3 := hstage9_3
  sem3 := sem9_3
  num := Memref.whole cc9_scratch0
  hnum := Memref.isWhole_whole _
  den := Memref.whole cc9_scratch1
  hden := Memref.isWhole_whole _
  body := 9
  args t s := (t, s)
  hrow _ _ := rfl

/-- The head call of step 5. -/
abbrev hd4 : HCall F where
  x := Memref.whole main_v12
  hx := Memref.isWhole_whole _
  k := Memref.whole main_v2
  hk := Memref.isWhole_whole _
  v := Memref.whole main_arg5
  hv := Memref.isWhole_whole _
  f := Memref.whole main_v11
  hf := Memref.isWhole_whole _
  a := Memref.whole main_v0
  ha := Memref.isWhole_whole _
  b := Memref.whole main_v1
  hb := Memref.isWhole_whole _
  out := Memref.whole main_v13
  hout := Memref.isWhole_whole _
  st0 := stage10_0
  hst0 := hstage10_0
  sem0 := sem10_0
  st1 := stage10_1
  hst1 := hstage10_1
  sem1 := sem10_1
  st2 := stage10_2
  hst2 := hstage10_2
  sem2 := sem10_2
  st3 := stage10_3
  hst3 := hstage10_3
  sem3 := sem10_3
  st4 := stage10_4
  hst4 := hstage10_4
  sem4 := sem10_4
  st5 := stage10_5
  hst5 := hstage10_5
  sem5 := sem10_5
  st6 := stage10_6
  hst6 := hstage10_6
  sem6 := sem10_6
  acc := Memref.whole cc10_scratch0
  hacc := Memref.isWhole_whole _
  body := 10
  args t s := (t, s)
  hrow _ _ := rfl

/-- The vocabulary call of step 6. -/
abbrev voc5 : VCall F where
  f := Memref.whole main_v13
  hf := Memref.isWhole_whole _
  we := Memref.whole main_arg1
  hwe := Memref.isWhole_whole _
  e := Memref.whole main_arg0
  he := Memref.isWhole_whole _
  out := Memref.whole main_v14
  hout := Memref.isWhole_whole _
  st0 := stage11_0
  hst0 := hstage11_0
  sem0 := sem11_0
  st1 := stage11_1
  hst1 := hstage11_1
  sem1 := sem11_1
  st2 := stage11_2
  hst2 := hstage11_2
  sem2 := sem11_2
  st3 := stage11_3
  hst3 := hstage11_3
  sem3 := sem11_3
  num := Memref.whole cc11_scratch0
  hnum := Memref.isWhole_whole _
  den := Memref.whole cc11_scratch1
  hden := Memref.isWhole_whole _
  body := 11
  args t s := (t, s)
  hrow _ _ := rfl

/-- The head call of step 6. -/
abbrev hd5 : HCall F where
  x := Memref.whole main_v14
  hx := Memref.isWhole_whole _
  k := Memref.whole main_v2
  hk := Memref.isWhole_whole _
  v := Memref.whole main_arg5
  hv := Memref.isWhole_whole _
  f := Memref.whole main_v13
  hf := Memref.isWhole_whole _
  a := Memref.whole main_v0
  ha := Memref.isWhole_whole _
  b := Memref.whole main_v1
  hb := Memref.isWhole_whole _
  out := Memref.whole main_v15
  hout := Memref.isWhole_whole _
  st0 := stage12_0
  hst0 := hstage12_0
  sem0 := sem12_0
  st1 := stage12_1
  hst1 := hstage12_1
  sem1 := sem12_1
  st2 := stage12_2
  hst2 := hstage12_2
  sem2 := sem12_2
  st3 := stage12_3
  hst3 := hstage12_3
  sem3 := sem12_3
  st4 := stage12_4
  hst4 := hstage12_4
  sem4 := sem12_4
  st5 := stage12_5
  hst5 := hstage12_5
  sem5 := sem12_5
  st6 := stage12_6
  hst6 := hstage12_6
  sem6 := sem12_6
  acc := Memref.whole cc12_scratch0
  hacc := Memref.isWhole_whole _
  body := 12
  args t s := (t, s)
  hrow _ _ := rfl

/-! ## What a core holds outside the windows, at a region's ends -/

section Ends

variable (c : Dev nD)

/-- A buffer held whole at some contents, said of its memory reference. -/
theorem some_owns (b : Ref sig .tc) :
    (iprop(∃ f : Buf (Elt F) ((c : Thread nD τ).loc b), ((c : Thread nD τ).loc b) ↦{fullShare} f) : sProp 𝕄)
      = iprop(∃ d, owns (c : Thread nD τ) (Memref.whole b) fullShare d) := by
  refine congrArg _ (funext fun f => ?_)
  rw [owns_whole_eq]
  refine BI.Entails.antisymm ?_ ?_
  · show (((c : Thread nD τ).loc b) ↦{fullShare} f : sProp 𝕄) ⊢ iprop(∃ g : Buf (Elt F) ((c : Thread nD τ).loc b), ⌜g = f⌝ ∗ (((c : Thread nD τ).loc b) ↦{fullShare} g))
    iintro H; iexists f; isplitr
    · ipureintro; rfl
    · iexact H
  · show iprop(∃ g : Buf (Elt F) ((c : Thread nD τ).loc b), ⌜g = f⌝ ∗ (((c : Thread nD τ).loc b) ↦{fullShare} g)) ⊢ (((c : Thread nD τ).loc b) ↦{fullShare} f : sProp 𝕄)
    iintro ⟨%g, %h, H⟩; subst h; iexact H

theorem voc_in (C : VCall F) (A : (w : Fin 4) → Buf (Elt F) (((vcfg C).win w).arr.view.loc (c.tc : Thread nD τ))) {S : sProp 𝕄} (Rest : sProp 𝕄)
    (h : S = iprop(((∃ d, owns (c : Thread nD τ) C.num fullShare d) ∗ (∃ d, owns (c : Thread nD τ) C.den fullShare d)) ∗ Rest)) :
    iprop(S ∗ emp) ⊢ (vdat C c A Rest).Φ 0 := by
  show _ ⊢ vΦ C c A Rest 0
  rw [h]; unfold vΦ
  iintro ⟨⟨⟨⟨%d, Hn⟩, ⟨%d', Hd⟩⟩, HR⟩, -⟩
  iexists d, d'
  isplitr; · ipureintro; exact fun hn => absurd rfl hn
  isplitl [Hn]; · iexact Hn
  isplitl [Hd]; · iexact Hd
  iexact HR

theorem voc_out (C : VCall F) (A : (w : Fin 4) → Buf (Elt F) (((vcfg C).win w).arr.view.loc (c.tc : Thread nD τ))) {S : sProp 𝕄} (Rest : sProp 𝕄)
    (h : S = iprop(((∃ d, owns (c : Thread nD τ) C.num fullShare d) ∗ (∃ d, owns (c : Thread nD τ) C.den fullShare d)) ∗ Rest))
    (t : Fin ((vcfg C).N + 1)) : (vdat C c A Rest).Φ t ⊢ iprop(S ∗ emp) := by
  show vΦ C c A Rest t.val ⊢ _
  rw [h]; unfold vΦ
  iintro ⟨%d, %d', -, Hn, Hd, HR⟩
  isplitl
  · isplitl [Hn Hd]
    · isplitl [Hn]
      · iexists d; iexact Hn
      · iexists d'; iexact Hd
    · iexact HR
  · iempintro

theorem hd_in (C : HCall F) (A : (w : Fin 7) → Buf (Elt F) (((hcfg C).win w).arr.view.loc (c.tc : Thread nD τ))) {S : sProp 𝕄} (Rest : sProp 𝕄)
    (h : S = iprop((∃ d, owns (c : Thread nD τ) C.acc fullShare d) ∗ Rest)) :
    iprop(S ∗ emp) ⊢ (hdat C c A Rest).Φ 0 := by
  show _ ⊢ hΦ C c A Rest 0
  rw [h]; unfold hΦ
  iintro ⟨⟨⟨%d, Hn⟩, HR⟩, -⟩
  iexists d
  isplitr; · ipureintro; exact fun hn => absurd rfl hn
  isplitl [Hn]; · iexact Hn
  iexact HR

theorem hd_out (C : HCall F) (A : (w : Fin 7) → Buf (Elt F) (((hcfg C).win w).arr.view.loc (c.tc : Thread nD τ))) {S : sProp 𝕄} (Rest : sProp 𝕄)
    (h : S = iprop((∃ d, owns (c : Thread nD τ) C.acc fullShare d) ∗ Rest))
    (t : Fin ((hcfg C).N + 1)) : (hdat C c A Rest).Φ t ⊢ iprop(S ∗ emp) := by
  show hΦ C c A Rest t.val ⊢ _
  rw [h]; unfold hΦ
  iintro ⟨%d, -, Hn, HR⟩
  isplitl
  · isplitl [Hn]
    · iexists d; iexact Hn
    · iexact HR
  · iempintro

end Ends

/-! ## A kernel region that changes one array -/

/-- Every TensorCore cell has the one index, at the one level. -/
abbrev L : GSem nD τ sig → Finset Unit := fun g => if g.1.2 = .tc then {()} else ∅
abbrev lv : GSem nD τ sig → Unit → ℕ := fun _ _ => 0

/-- What rides beside the buffers: the core owes nothing. -/
abbrev Rode (c : Dev nD) : sProp 𝕄 := iprop(∃ W, owes (c : Thread nD τ) (0 : CellTallies nD τ sig Unit) W)

/-- What is to be shown of a region entered at `W` and left at `W'`, of its pipeline alone. -/
structure Entered (cfg : Pipeline.Cfg sig Λ₀) (dat : (c : Dev nD) → Dat τ (Elt F) Unit ℕ (UR sig nD τ) ℕ cfg c)
    (W W' : Dev nD → Valuation τ sig (Elt F)) : Prop where
  body : ∀ c, BodyObligation (dat c) (defs₀ (F := F)) Variants.none () Set.univ
  owed : ∀ c t, (dat c).owed t = 0
  recd : ∀ c, (dat c).recorded 0 = Set.univ
  share : ∀ c w, (dat c).share w = fullShare
  hin : ∀ c, iprop(Pipeline.scopedRest cfg.spec c ∗ emp) ⊢ (dat c).Φ 0
  hout : ∀ c t, (dat c).Φ t ⊢ iprop(Pipeline.scopedRest cfg.spec c ∗ emp)
  arr : ∀ c w, (dat c).A w = W c (Proc.devRef .tc (Pipeline.arrRef cfg.spec w))
  fin : ∀ c, Pipeline.afterRegion (dat c) (W c) = W' c

section Region

variable {pdats : (p : Fin 14) → (c : Dev nD) → Dat τ (Elt F) Unit ℕ (UR sig nD τ) ℕ (cfgs p) c} {p : Fin 14} {W W' : Dev nD → Valuation τ sig (Elt F)}

theorem cut (p : Fin 14) : Pipeline.LevelCut (pcfgs (F := F)) adm () L lv p (fun _ => 0) (fun _ => 0) where
  hι _ _ _ := Finset.mem_singleton_self _
  hιb _ _ _ := le_refl _
  hD _ _ _ h := absurd h (lt_irrefl _)

variable (kit : Pipeline.LaunchFacts (nD := nD) (τ := τ) cfgs p) (h : Entered (cfgs p) (pdats p) W W')

/-- The region's record. -/
def region : Pipeline.RegionSeg (pcfgs (F := F)) adm pdats () defs₀ Variants.none L lv p :=
  Pipeline.RegionSeg.ofHeldIn (pcfgs (F := F)) adm pdats () defs₀ Variants.none L lv p (fun _ => 0) (Pipeline.ucRefs τ sig) (fun _ => iprop(emp)) (fun _ => iprop(emp))
    kit.toP rfl (fun c => (h.body c).loose) h.owed h.recd h.share h.hin (fun c => h.hout c _) (fun _ => 0) (cut p) (fun _ => iprop(emp)) W h.arr

theorem region_pre (c : Dev nD) :
    iprop(StableHlo.held (c : Thread nD τ) (Pipeline.ucRefs τ sig) (W c) ∗ Rode c) ⊢ (region kit h).pre c := by
  refine .trans ?_ (Pipeline.RegionSeg.ofHeldIn_pre (Pipeline.arrRefs_sub_ucRefs _ kit.win.arr_unscoped) c)
  iintro ⟨Hh, HO⟩
  isplitl [Hh]; · iexact Hh
  isplitl [HO]; · iexact HO
  isplitr <;> iempintro

theorem region_post (c : Dev nD) :
    (region kit h).post c ⊢ iprop(StableHlo.held (c : Thread nD τ) (Pipeline.ucRefs τ sig) (W' c) ∗ Rode c) := by
  refine (Pipeline.RegionSeg.ofHeldIn_post (Pipeline.arrRefs_sub_ucRefs _ kit.win.arr_unscoped) c).trans ?_
  rw [show Pipeline.afterRegion (pdats p c) (W c) = W' c from h.fin c]
  iintro ⟨Hh, HO, -, -⟩
  isplitl [Hh]; · iexact Hh
  iexact HO

end Region

/-- A region with one output window leaves everything but that window's array as it was. -/
theorem after_one {cfg : Pipeline.Cfg sig Λ₀} {c : Dev nD} (dat : Dat τ (Elt F) Unit ℕ (UR sig nD τ) ℕ cfg c) (V : Valuation τ sig (Elt F))
    (hinj : Function.Injective (Pipeline.arrRef cfg.spec)) (hA : ∀ w, dat.A w = V (Proc.devRef .tc (Pipeline.arrRef cfg.spec w)))
    (w₀ : Fin cfg.W) (h : ∀ w, w ≠ w₀ → (cfg.win w).isOut = false) :
    Pipeline.afterRegion dat V = Function.update V (Proc.devRef .tc (Pipeline.arrRef cfg.spec w₀)) (dat.arrAt w₀ cfg.N) := by
  funext b
  by_cases hb : b = Proc.devRef .tc (Pipeline.arrRef cfg.spec w₀)
  · subst hb
    rw [Function.update_self]
    exact Pipeline.afterRegion_arr dat V hinj w₀
  · rw [Function.update_of_ne hb]
    by_cases hw : ∃ w, b = Proc.devRef .tc (Pipeline.arrRef cfg.spec w)
    · obtain ⟨w, rfl⟩ := hw
      have hne : w ≠ w₀ := fun e => hb (by rw [e])
      exact (Pipeline.afterRegion_arr dat V hinj w).trans ((dat.arrAt_in w (h w hne) _).trans (hA w))
    · unfold Pipeline.afterRegion
      rw [dif_neg hw]

/-- A vocabulary call's region, given what its scratch is of the scoped buffers, and the valuation it leaves. -/
theorem voc_entered (C : VCall F) (W W' : Dev nD → Valuation τ sig (Elt F)) (Rest : Dev nD → sProp 𝕄) (hinj : Function.Injective (Pipeline.arrRef (vcfg C).spec))
    (hs : ∀ c : Dev nD, Pipeline.scopedRest (vcfg C).spec c
      = iprop(((∃ d, owns (c : Thread nD τ) C.num fullShare d) ∗ (∃ d, owns (c : Thread nD τ) C.den fullShare d)) ∗ Rest c))
    (hfin : ∀ c, Function.update (W c) (Proc.devRef .tc (Pipeline.arrRef (vcfg C).spec 3))
      ((vdat C c (fun w => W c (Proc.devRef .tc (Pipeline.arrRef (vcfg C).spec w))) (Rest c)).arrAt 3 (vcfg C).N) = W' c) :
    Entered (vcfg C) (fun c => vdat C c (fun w => W c (Proc.devRef .tc (Pipeline.arrRef (vcfg C).spec w))) (Rest c)) W W' where
  body c := vbody C c _ _
  owed _ _ := rfl
  recd _ := rfl
  share _ w := ite_self _
  hin c := voc_in c C _ (Rest c) (hs c)
  hout c t := voc_out c C _ (Rest c) (hs c) t
  arr _ _ := rfl
  fin c := (after_one _ _ hinj (fun _ => rfl) 3 fun (w : Fin 4) h => match w, h with | 0, _ => rfl | 1, _ => rfl | 2, _ => rfl | 3, h => absurd rfl h).trans (hfin c)

/-- A head call's region, likewise. -/
theorem hd_entered (C : HCall F) (W W' : Dev nD → Valuation τ sig (Elt F)) (Rest : Dev nD → sProp 𝕄) (hinj : Function.Injective (Pipeline.arrRef (hcfg C).spec))
    (hs : ∀ c : Dev nD, Pipeline.scopedRest (hcfg C).spec c = iprop((∃ d, owns (c : Thread nD τ) C.acc fullShare d) ∗ Rest c))
    (hfin : ∀ c, Function.update (W c) (Proc.devRef .tc (Pipeline.arrRef (hcfg C).spec 6))
      ((hdat C c (fun w => W c (Proc.devRef .tc (Pipeline.arrRef (hcfg C).spec w))) (Rest c)).arrAt 6 (hcfg C).N) = W' c) :
    Entered (hcfg C) (fun c => hdat C c (fun w => W c (Proc.devRef .tc (Pipeline.arrRef (hcfg C).spec w))) (Rest c)) W W' where
  body c := hbody C c _ _
  owed _ _ := rfl
  recd _ := rfl
  share _ w := ite_self _
  hin c := hd_in c C _ (Rest c) (hs c)
  hout c t := hd_out c C _ (Rest c) (hs c) t
  arr _ _ := rfl
  fin c := (after_one _ _ hinj (fun _ => rfl) 6 fun (w : Fin 7) h => match w, h with
    | 0, _ => rfl | 1, _ => rfl | 2, _ => rfl | 3, _ => rfl | 4, _ => rfl | 5, _ => rfl | 6, h => absurd rfl h).trans (hfin c)

/-- The region of the heads' tables. -/
theorem km_entered (W W' : Dev nD → Valuation τ sig (Elt F))
    (hfin : ∀ c, Function.update (W c) (Proc.devRef .tc (Pipeline.arrRef spec0 3))
      ((kmdat c (fun w => W c (Proc.devRef .tc (Pipeline.arrRef spec0 w))) (Pipeline.scopedRest spec0 c)).arrAt 3 cfg0.N) = W' c) :
    Entered cfg0 (fun c => kmdat c (fun w => W c (Proc.devRef .tc (Pipeline.arrRef spec0 w))) (Pipeline.scopedRest spec0 c)) W W' where
  body c := kmbody c _ _
  owed _ _ := rfl
  recd _ := rfl
  share _ w := ite_self _
  hin c := by
    show iprop(Pipeline.scopedRest spec0 c ∗ emp) ⊢ Pipeline.scopedRest spec0 c
    iintro ⟨H, -⟩; iexact H
  hout c t := by
    show Pipeline.scopedRest spec0 c ⊢ iprop(Pipeline.scopedRest spec0 c ∗ emp)
    iintro H; isplitl; · iexact H
    iempintro
  arr _ _ := rfl
  fin c := (after_one (cfg := cfg0) _ _ winFacts0.arr_inj (fun _ => rfl) 3 fun (w : Fin 4) h => match w, h with | 0, _ => rfl | 1, _ => rfl | 2, _ => rfl | 3, h => absurd rfl h).trans (hfin c)

/-- The region of the last product. -/
theorem lg_entered (W W' : Dev nD → Valuation τ sig (Elt F))
    (hfin : ∀ c, Function.update (W c) (Proc.devRef .tc (Pipeline.arrRef spec13 2))
      ((lgdat c (fun w => W c (Proc.devRef .tc (Pipeline.arrRef spec13 w))) (Pipeline.scopedRest spec13 c)).arrAt 2 cfg13.N) = W' c) :
    Entered cfg13 (fun c => lgdat c (fun w => W c (Proc.devRef .tc (Pipeline.arrRef spec13 w))) (Pipeline.scopedRest spec13 c)) W W' where
  body c := lgbody c _ _
  owed _ _ := rfl
  recd _ := rfl
  share _ w := ite_self _
  hin c := by
    show iprop(Pipeline.scopedRest spec13 c ∗ emp) ⊢ Pipeline.scopedRest spec13 c
    iintro ⟨H, -⟩; iexact H
  hout c t := by
    show Pipeline.scopedRest spec13 c ⊢ iprop(Pipeline.scopedRest spec13 c ∗ emp)
    iintro H; isplitl; · iexact H
    iempintro
  arr _ _ := rfl
  fin c := (after_one (cfg := cfg13) _ _ winFacts13.arr_inj (fun _ => rfl) 2 fun (w : Fin 3) h => match w, h with | 0, _ => rfl | 1, _ => rfl | 2, h => absurd rfl h).trans (hfin c)

end Cert.KernelIdeal.Hand

end

end
-- ==== Proof.Regions.lean ====
/- The fourteen kernel regions of the program: what each is entered with and what it leaves. -/
module

public import proofs.«01_k».proof.Proof.Calls

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

/-! ## What each region leaves -/

/-- The regions leave in their output arrays what the calls compute of what they are entered with. -/
structure Leaves : Prop where
  km : ∀ c, outs 2 main_v2 c = kmArr (F := F) (V1 m c main_arg2) (V1 m c main_arg3) (V1 m c main_arg4)
  voc0 : ∀ c, outs 4 main_v4 c = vocArr (F := F) (V3 m outs c main_v3) (V3 m outs c main_arg1) (V3 m outs c main_arg0)
  hd0 : ∀ c, outs 5 main_v5 c = hdArr (F := F) (V4 m outs c main_v4) (V4 m outs c main_v2) (V4 m outs c main_arg5) (V4 m outs c main_v3) (V4 m outs c main_v0) (V4 m outs c main_v1)
  voc1 : ∀ c, outs 6 main_v6 c = vocArr (F := F) (V5 m outs c main_v5) (V5 m outs c main_arg1) (V5 m outs c main_arg0)
  hd1 : ∀ c, outs 7 main_v7 c = hdArr (F := F) (V6 m outs c main_v6) (V6 m outs c main_v2) (V6 m outs c main_arg5) (V6 m outs c main_v5) (V6 m outs c main_v0) (V6 m outs c main_v1)
  voc2 : ∀ c, outs 8 main_v8 c = vocArr (F := F) (V7 m outs c main_v7) (V7 m outs c main_arg1) (V7 m outs c main_arg0)
  hd2 : ∀ c, outs 9 main_v9 c = hdArr (F := F) (V8 m outs c main_v8) (V8 m outs c main_v2) (V8 m outs c main_arg5) (V8 m outs c main_v7) (V8 m outs c main_v0) (V8 m outs c main_v1)
  voc3 : ∀ c, outs 10 main_v10 c = vocArr (F := F) (V9 m outs c main_v9) (V9 m outs c main_arg1) (V9 m outs c main_arg0)
  hd3 : ∀ c, outs 11 main_v11 c = hdArr (F := F) (V10 m outs c main_v10) (V10 m outs c main_v2) (V10 m outs c main_arg5) (V10 m outs c main_v9) (V10 m outs c main_v0) (V10 m outs c main_v1)
  voc4 : ∀ c, outs 12 main_v12 c = vocArr (F := F) (V11 m outs c main_v11) (V11 m outs c main_arg1) (V11 m outs c main_arg0)
  hd4 : ∀ c, outs 13 main_v13 c = hdArr (F := F) (V12 m outs c main_v12) (V12 m outs c main_v2) (V12 m outs c main_arg5) (V12 m outs c main_v11) (V12 m outs c main_v0) (V12 m outs c main_v1)
  voc5 : ∀ c, outs 14 main_v14 c = vocArr (F := F) (V13 m outs c main_v13) (V13 m outs c main_arg1) (V13 m outs c main_arg0)
  hd5 : ∀ c, outs 15 main_v15 c = hdArr (F := F) (V14 m outs c main_v14) (V14 m outs c main_v2) (V14 m outs c main_arg5) (V14 m outs c main_v13) (V14 m outs c main_v0) (V14 m outs c main_v1)
  lg : ∀ c, outs 18 main_v19 c = lgArr (F := F) (V17 m outs c main_v18) (V17 m outs c main_arg1)

/-! ## The regions -/

/-- The proof data of the fourteen pipelines. -/
def pdats : (p : Fin 14) → (c : Dev nD) → Dat τ (Elt F) Unit ℕ (UR sig nD τ) ℕ (cfgs p) c
  | 0 => fun c => kmdat c (fun w => V1 m c (Proc.devRef .tc (Pipeline.arrRef spec0 w))) (Pipeline.scopedRest spec0 c)
  | 1 => fun c => vdat voc0 c (fun w => V3 m outs c (Proc.devRef .tc (Pipeline.arrRef (vcfg (F := F) voc0).spec w))) (Pipeline.scopedRestBut spec1 c [cc1_scratch0, cc1_scratch1])
  | 2 => fun c => hdat hd0 c (fun w => V4 m outs c (Proc.devRef .tc (Pipeline.arrRef (hcfg (F := F) hd0).spec w))) (Pipeline.scopedRestBut spec2 c [cc2_scratch0])
  | 3 => fun c => vdat voc1 c (fun w => V5 m outs c (Proc.devRef .tc (Pipeline.arrRef (vcfg (F := F) voc1).spec w))) (Pipeline.scopedRestBut spec3 c [cc3_scratch0, cc3_scratch1])
  | 4 => fun c => hdat hd1 c (fun w => V6 m outs c (Proc.devRef .tc (Pipeline.arrRef (hcfg (F := F) hd1).spec w))) (Pipeline.scopedRestBut spec4 c [cc4_scratch0])
  | 5 => fun c => vdat voc2 c (fun w => V7 m outs c (Proc.devRef .tc (Pipeline.arrRef (vcfg (F := F) voc2).spec w))) (Pipeline.scopedRestBut spec5 c [cc5_scratch0, cc5_scratch1])
  | 6 => fun c => hdat hd2 c (fun w => V8 m outs c (Proc.devRef .tc (Pipeline.arrRef (hcfg (F := F) hd2).spec w))) (Pipeline.scopedRestBut spec6 c [cc6_scratch0])
  | 7 => fun c => vdat voc3 c (fun w => V9 m outs c (Proc.devRef .tc (Pipeline.arrRef (vcfg (F := F) voc3).spec w))) (Pipeline.scopedRestBut spec7 c [cc7_scratch0, cc7_scratch1])
  | 8 => fun c => hdat hd3 c (fun w => V10 m outs c (Proc.devRef .tc (Pipeline.arrRef (hcfg (F := F) hd3).spec w))) (Pipeline.scopedRestBut spec8 c [cc8_scratch0])
  | 9 => fun c => vdat voc4 c (fun w => V11 m outs c (Proc.devRef .tc (Pipeline.arrRef (vcfg (F := F) voc4).spec w))) (Pipeline.scopedRestBut spec9 c [cc9_scratch0, cc9_scratch1])
  | 10 => fun c => hdat hd4 c (fun w => V12 m outs c (Proc.devRef .tc (Pipeline.arrRef (hcfg (F := F) hd4).spec w))) (Pipeline.scopedRestBut spec10 c [cc10_scratch0])
  | 11 => fun c => vdat voc5 c (fun w => V13 m outs c (Proc.devRef .tc (Pipeline.arrRef (vcfg (F := F) voc5).spec w))) (Pipeline.scopedRestBut spec11 c [cc11_scratch0, cc11_scratch1])
  | 12 => fun c => hdat hd5 c (fun w => V14 m outs c (Proc.devRef .tc (Pipeline.arrRef (hcfg (F := F) hd5).spec w))) (Pipeline.scopedRestBut spec12 c [cc12_scratch0])
  | 13 => fun c => lgdat c (fun w => V17 m outs c (Proc.devRef .tc (Pipeline.arrRef spec13 w))) (Pipeline.scopedRest spec13 c)
  | ⟨_ + 14, h⟩ => absurd h (Nat.not_lt.2 (Nat.le_add_left _ _))

variable {m outs} (h : Leaves m outs)

theorem two_owns (c : Dev nD) (a b : Ref sig .tc) (Rest : sProp 𝕄) :
    iprop(iprop((∃ f : Buf (Elt F) ((c : Thread nD τ).loc a), ((c : Thread nD τ).loc a) ↦{fullShare} f) ∗ (∃ f : Buf (Elt F) ((c : Thread nD τ).loc b), ((c : Thread nD τ).loc b) ↦{fullShare} f)) ∗ Rest)
      = iprop(((∃ d, owns (c : Thread nD τ) (Memref.whole a) fullShare d) ∗ (∃ d, owns (c : Thread nD τ) (Memref.whole b) fullShare d)) ∗ Rest) := by
  rw [some_owns c a, some_owns c b]

theorem one_owns (c : Dev nD) (a : Ref sig .tc) (Rest : sProp 𝕄) :
    iprop((∃ f : Buf (Elt F) ((c : Thread nD τ).loc a), ((c : Thread nD τ).loc a) ↦{fullShare} f) ∗ Rest)
      = iprop((∃ d, owns (c : Thread nD τ) (Memref.whole a) fullShare d) ∗ Rest) := by
  rw [some_owns c a]

/-- A region's record at an equal valuation left. -/
theorem Entered.left {cfg : Pipeline.Cfg sig Λ₀} {dat : (c : Dev nD) → Dat τ (Elt F) Unit ℕ (UR sig nD τ) ℕ cfg c}
    {W W' W'' : Dev nD → Valuation τ sig (Elt F)} (e : Entered cfg dat W W') (hW : ∀ c, W' c = W'' c) : Entered cfg dat W W'' :=
  { e with fin := fun c => (e.fin c).trans (hW c) }

section Each

/-- A whole buffer reads as its contents. -/
theorem read_all (b : Ref sig .tc) (X : b.ty.Contents (Elt F)) : (Memref.whole b).view.read (Elt F) X = X := View.read_whole b X

variable (W : Dev nD → Valuation τ sig (Elt F))

theorem out0 (c : Dev nD) (A) (R : sProp 𝕄) : (kmdat c A R).arrAt 3 cfg0.N = kmArr (F := F) (A 0) (A 1) (A 2) :=
  (read_all main_v2 ((kmdat c A R).arrAt 3 cfg0.N)).symm.trans ((kmread c A R).trans (by
    rw [kmOut, show kmP c A = A 0 from read_all main_arg2 (A 0), show kmK c A = A 1 from read_all main_arg3 (A 1), show kmQ c A = A 2 from read_all main_arg4 (A 2)]))
theorem each0 : Entered cfg0 (fun c => kmdat c (fun w => W c (Proc.devRef .tc (Pipeline.arrRef spec0 w))) (Pipeline.scopedRest spec0 c)) W
    (fun c => Function.update (W c) main_v2 (kmArr (F := F) (W c main_arg2) (W c main_arg3) (W c main_arg4))) :=
  km_entered _ _ fun c => congrArg (Function.update (W c) (main_v2 : DevRef τ sig)) (out0 c _ _)
theorem out1 (c : Dev nD) (A) (R : sProp 𝕄) : (vdat voc0 c A R).arrAt 3 (vcfg (F := F) voc0).N = vocArr (F := F) (A 0) (A 1) (A 2) :=
  (read_all main_v4 ((vdat voc0 c A R).arrAt 3 (vcfg (F := F) voc0).N)).symm.trans ((vread voc0 c A R).trans (by
    rw [show vX voc0 c A = A 0 from read_all main_v3 (A 0), show vW voc0 c A = A 1 from read_all main_arg1 (A 1), show vE voc0 c A = A 2 from read_all main_arg0 (A 2)]))
theorem each1 : Entered cfg1 (fun c => vdat voc0 c (fun w => W c (Proc.devRef .tc (Pipeline.arrRef (vcfg (F := F) voc0).spec w))) (Pipeline.scopedRestBut spec1 c [cc1_scratch0, cc1_scratch1])) W
    (fun c => Function.update (W c) main_v4 (vocArr (F := F) (W c main_v3) (W c main_arg1) (W c main_arg0))) :=
  voc_entered voc0 _ _ _ winFacts1.arr_inj (fun c => (scopedRest1_split c).trans (two_owns c _ _ _)) fun c => congrArg (Function.update (W c) (main_v4 : DevRef τ sig)) (out1 c _ _)
theorem out2 (c : Dev nD) (A) (R : sProp 𝕄) : (hdat hd0 c A R).arrAt 6 (hcfg (F := F) hd0).N = hdArr (F := F) (A 0) (A 1) (A 2) (A 3) (A 4) (A 5) :=
  (read_all main_v5 ((hdat hd0 c A R).arrAt 6 (hcfg (F := F) hd0).N)).symm.trans ((hread hd0 c A R).trans (by
    rw [hOut, show hD hd0 c A = A 0 from read_all main_v4 (A 0), show hKt hd0 c A = A 1 from read_all main_v2 (A 1), show hV hd0 c A = A 2 from read_all main_arg5 (A 2),
      show hX hd0 c A = A 3 from read_all main_v3 (A 3), show hA hd0 c A = A 4 from read_all main_v0 (A 4), show hB hd0 c A = A 5 from read_all main_v1 (A 5)]))
theorem each2 : Entered cfg2 (fun c => hdat hd0 c (fun w => W c (Proc.devRef .tc (Pipeline.arrRef (hcfg (F := F) hd0).spec w))) (Pipeline.scopedRestBut spec2 c [cc2_scratch0])) W
    (fun c => Function.update (W c) main_v5 (hdArr (F := F) (W c main_v4) (W c main_v2) (W c main_arg5) (W c main_v3) (W c main_v0) (W c main_v1))) :=
  hd_entered hd0 _ _ _ winFacts2.arr_inj (fun c => (scopedRest2_split c).trans (one_owns c _ _)) fun c => congrArg (Function.update (W c) (main_v5 : DevRef τ sig)) (out2 c _ _)
theorem out3 (c : Dev nD) (A) (R : sProp 𝕄) : (vdat voc1 c A R).arrAt 3 (vcfg (F := F) voc1).N = vocArr (F := F) (A 0) (A 1) (A 2) :=
  (read_all main_v6 ((vdat voc1 c A R).arrAt 3 (vcfg (F := F) voc1).N)).symm.trans ((vread voc1 c A R).trans (by
    rw [show vX voc1 c A = A 0 from read_all main_v5 (A 0), show vW voc1 c A = A 1 from read_all main_arg1 (A 1), show vE voc1 c A = A 2 from read_all main_arg0 (A 2)]))
theorem each3 : Entered cfg3 (fun c => vdat voc1 c (fun w => W c (Proc.devRef .tc (Pipeline.arrRef (vcfg (F := F) voc1).spec w))) (Pipeline.scopedRestBut spec3 c [cc3_scratch0, cc3_scratch1])) W
    (fun c => Function.update (W c) main_v6 (vocArr (F := F) (W c main_v5) (W c main_arg1) (W c main_arg0))) :=
  voc_entered voc1 _ _ _ winFacts3.arr_inj (fun c => (scopedRest3_split c).trans (two_owns c _ _ _)) fun c => congrArg (Function.update (W c) (main_v6 : DevRef τ sig)) (out3 c _ _)
theorem out4 (c : Dev nD) (A) (R : sProp 𝕄) : (hdat hd1 c A R).arrAt 6 (hcfg (F := F) hd1).N = hdArr (F := F) (A 0) (A 1) (A 2) (A 3) (A 4) (A 5) :=
  (read_all main_v7 ((hdat hd1 c A R).arrAt 6 (hcfg (F := F) hd1).N)).symm.trans ((hread hd1 c A R).trans (by
    rw [hOut, show hD hd1 c A = A 0 from read_all main_v6 (A 0), show hKt hd1 c A = A 1 from read_all main_v2 (A 1), show hV hd1 c A = A 2 from read_all main_arg5 (A 2),
      show hX hd1 c A = A 3 from read_all main_v5 (A 3), show hA hd1 c A = A 4 from read_all main_v0 (A 4), show hB hd1 c A = A 5 from read_all main_v1 (A 5)]))
theorem each4 : Entered cfg4 (fun c => hdat hd1 c (fun w => W c (Proc.devRef .tc (Pipeline.arrRef (hcfg (F := F) hd1).spec w))) (Pipeline.scopedRestBut spec4 c [cc4_scratch0])) W
    (fun c => Function.update (W c) main_v7 (hdArr (F := F) (W c main_v6) (W c main_v2) (W c main_arg5) (W c main_v5) (W c main_v0) (W c main_v1))) :=
  hd_entered hd1 _ _ _ winFacts4.arr_inj (fun c => (scopedRest4_split c).trans (one_owns c _ _)) fun c => congrArg (Function.update (W c) (main_v7 : DevRef τ sig)) (out4 c _ _)
theorem out5 (c : Dev nD) (A) (R : sProp 𝕄) : (vdat voc2 c A R).arrAt 3 (vcfg (F := F) voc2).N = vocArr (F := F) (A 0) (A 1) (A 2) :=
  (read_all main_v8 ((vdat voc2 c A R).arrAt 3 (vcfg (F := F) voc2).N)).symm.trans ((vread voc2 c A R).trans (by
    rw [show vX voc2 c A = A 0 from read_all main_v7 (A 0), show vW voc2 c A = A 1 from read_all main_arg1 (A 1), show vE voc2 c A = A 2 from read_all main_arg0 (A 2)]))
theorem each5 : Entered cfg5 (fun c => vdat voc2 c (fun w => W c (Proc.devRef .tc (Pipeline.arrRef (vcfg (F := F) voc2).spec w))) (Pipeline.scopedRestBut spec5 c [cc5_scratch0, cc5_scratch1])) W
    (fun c => Function.update (W c) main_v8 (vocArr (F := F) (W c main_v7) (W c main_arg1) (W c main_arg0))) :=
  voc_entered voc2 _ _ _ winFacts5.arr_inj (fun c => (scopedRest5_split c).trans (two_owns c _ _ _)) fun c => congrArg (Function.update (W c) (main_v8 : DevRef τ sig)) (out5 c _ _)
theorem out6 (c : Dev nD) (A) (R : sProp 𝕄) : (hdat hd2 c A R).arrAt 6 (hcfg (F := F) hd2).N = hdArr (F := F) (A 0) (A 1) (A 2) (A 3) (A 4) (A 5) :=
  (read_all main_v9 ((hdat hd2 c A R).arrAt 6 (hcfg (F := F) hd2).N)).symm.trans ((hread hd2 c A R).trans (by
    rw [hOut, show hD hd2 c A = A 0 from read_all main_v8 (A 0), show hKt hd2 c A = A 1 from read_all main_v2 (A 1), show hV hd2 c A = A 2 from read_all main_arg5 (A 2),
      show hX hd2 c A = A 3 from read_all main_v7 (A 3), show hA hd2 c A = A 4 from read_all main_v0 (A 4), show hB hd2 c A = A 5 from read_all main_v1 (A 5)]))
theorem each6 : Entered cfg6 (fun c => hdat hd2 c (fun w => W c (Proc.devRef .tc (Pipeline.arrRef (hcfg (F := F) hd2).spec w))) (Pipeline.scopedRestBut spec6 c [cc6_scratch0])) W
    (fun c => Function.update (W c) main_v9 (hdArr (F := F) (W c main_v8) (W c main_v2) (W c main_arg5) (W c main_v7) (W c main_v0) (W c main_v1))) :=
  hd_entered hd2 _ _ _ winFacts6.arr_inj (fun c => (scopedRest6_split c).trans (one_owns c _ _)) fun c => congrArg (Function.update (W c) (main_v9 : DevRef τ sig)) (out6 c _ _)
theorem out7 (c : Dev nD) (A) (R : sProp 𝕄) : (vdat voc3 c A R).arrAt 3 (vcfg (F := F) voc3).N = vocArr (F := F) (A 0) (A 1) (A 2) :=
  (read_all main_v10 ((vdat voc3 c A R).arrAt 3 (vcfg (F := F) voc3).N)).symm.trans ((vread voc3 c A R).trans (by
    rw [show vX voc3 c A = A 0 from read_all main_v9 (A 0), show vW voc3 c A = A 1 from read_all main_arg1 (A 1), show vE voc3 c A = A 2 from read_all main_arg0 (A 2)]))
theorem each7 : Entered cfg7 (fun c => vdat voc3 c (fun w => W c (Proc.devRef .tc (Pipeline.arrRef (vcfg (F := F) voc3).spec w))) (Pipeline.scopedRestBut spec7 c [cc7_scratch0, cc7_scratch1])) W
    (fun c => Function.update (W c) main_v10 (vocArr (F := F) (W c main_v9) (W c main_arg1) (W c main_arg0))) :=
  voc_entered voc3 _ _ _ winFacts7.arr_inj (fun c => (scopedRest7_split c).trans (two_owns c _ _ _)) fun c => congrArg (Function.update (W c) (main_v10 : DevRef τ sig)) (out7 c _ _)
theorem out8 (c : Dev nD) (A) (R : sProp 𝕄) : (hdat hd3 c A R).arrAt 6 (hcfg (F := F) hd3).N = hdArr (F := F) (A 0) (A 1) (A 2) (A 3) (A 4) (A 5) :=
  (read_all main_v11 ((hdat hd3 c A R).arrAt 6 (hcfg (F := F) hd3).N)).symm.trans ((hread hd3 c A R).trans (by
    rw [hOut, show hD hd3 c A = A 0 from read_all main_v10 (A 0), show hKt hd3 c A = A 1 from read_all main_v2 (A 1), show hV hd3 c A = A 2 from read_all main_arg5 (A 2),
      show hX hd3 c A = A 3 from read_all main_v9 (A 3), show hA hd3 c A = A 4 from read_all main_v0 (A 4), show hB hd3 c A = A 5 from read_all main_v1 (A 5)]))
theorem each8 : Entered cfg8 (fun c => hdat hd3 c (fun w => W c (Proc.devRef .tc (Pipeline.arrRef (hcfg (F := F) hd3).spec w))) (Pipeline.scopedRestBut spec8 c [cc8_scratch0])) W
    (fun c => Function.update (W c) main_v11 (hdArr (F := F) (W c main_v10) (W c main_v2) (W c main_arg5) (W c main_v9) (W c main_v0) (W c main_v1))) :=
  hd_entered hd3 _ _ _ winFacts8.arr_inj (fun c => (scopedRest8_split c).trans (one_owns c _ _)) fun c => congrArg (Function.update (W c) (main_v11 : DevRef τ sig)) (out8 c _ _)
theorem out9 (c : Dev nD) (A) (R : sProp 𝕄) : (vdat voc4 c A R).arrAt 3 (vcfg (F := F) voc4).N = vocArr (F := F) (A 0) (A 1) (A 2) :=
  (read_all main_v12 ((vdat voc4 c A R).arrAt 3 (vcfg (F := F) voc4).N)).symm.trans ((vread voc4 c A R).trans (by
    rw [show vX voc4 c A = A 0 from read_all main_v11 (A 0), show vW voc4 c A = A 1 from read_all main_arg1 (A 1), show vE voc4 c A = A 2 from read_all main_arg0 (A 2)]))
theorem each9 : Entered cfg9 (fun c => vdat voc4 c (fun w => W c (Proc.devRef .tc (Pipeline.arrRef (vcfg (F := F) voc4).spec w))) (Pipeline.scopedRestBut spec9 c [cc9_scratch0, cc9_scratch1])) W
    (fun c => Function.update (W c) main_v12 (vocArr (F := F) (W c main_v11) (W c main_arg1) (W c main_arg0))) :=
  voc_entered voc4 _ _ _ winFacts9.arr_inj (fun c => (scopedRest9_split c).trans (two_owns c _ _ _)) fun c => congrArg (Function.update (W c) (main_v12 : DevRef τ sig)) (out9 c _ _)
theorem out10 (c : Dev nD) (A) (R : sProp 𝕄) : (hdat hd4 c A R).arrAt 6 (hcfg (F := F) hd4).N = hdArr (F := F) (A 0) (A 1) (A 2) (A 3) (A 4) (A 5) :=
  (read_all main_v13 ((hdat hd4 c A R).arrAt 6 (hcfg (F := F) hd4).N)).symm.trans ((hread hd4 c A R).trans (by
    rw [hOut, show hD hd4 c A = A 0 from read_all main_v12 (A 0), show hKt hd4 c A = A 1 from read_all main_v2 (A 1), show hV hd4 c A = A 2 from read_all main_arg5 (A 2),
      show hX hd4 c A = A 3 from read_all main_v11 (A 3), show hA hd4 c A = A 4 from read_all main_v0 (A 4), show hB hd4 c A = A 5 from read_all main_v1 (A 5)]))
theorem each10 : Entered cfg10 (fun c => hdat hd4 c (fun w => W c (Proc.devRef .tc (Pipeline.arrRef (hcfg (F := F) hd4).spec w))) (Pipeline.scopedRestBut spec10 c [cc10_scratch0])) W
    (fun c => Function.update (W c) main_v13 (hdArr (F := F) (W c main_v12) (W c main_v2) (W c main_arg5) (W c main_v11) (W c main_v0) (W c main_v1))) :=
  hd_entered hd4 _ _ _ winFacts10.arr_inj (fun c => (scopedRest10_split c).trans (one_owns c _ _)) fun c => congrArg (Function.update (W c) (main_v13 : DevRef τ sig)) (out10 c _ _)
theorem out11 (c : Dev nD) (A) (R : sProp 𝕄) : (vdat voc5 c A R).arrAt 3 (vcfg (F := F) voc5).N = vocArr (F := F) (A 0) (A 1) (A 2) :=
  (read_all main_v14 ((vdat voc5 c A R).arrAt 3 (vcfg (F := F) voc5).N)).symm.trans ((vread voc5 c A R).trans (by
    rw [show vX voc5 c A = A 0 from read_all main_v13 (A 0), show vW voc5 c A = A 1 from read_all main_arg1 (A 1), show vE voc5 c A = A 2 from read_all main_arg0 (A 2)]))
theorem each11 : Entered cfg11 (fun c => vdat voc5 c (fun w => W c (Proc.devRef .tc (Pipeline.arrRef (vcfg (F := F) voc5).spec w))) (Pipeline.scopedRestBut spec11 c [cc11_scratch0, cc11_scratch1])) W
    (fun c => Function.update (W c) main_v14 (vocArr (F := F) (W c main_v13) (W c main_arg1) (W c main_arg0))) :=
  voc_entered voc5 _ _ _ winFacts11.arr_inj (fun c => (scopedRest11_split c).trans (two_owns c _ _ _)) fun c => congrArg (Function.update (W c) (main_v14 : DevRef τ sig)) (out11 c _ _)
theorem out12 (c : Dev nD) (A) (R : sProp 𝕄) : (hdat hd5 c A R).arrAt 6 (hcfg (F := F) hd5).N = hdArr (F := F) (A 0) (A 1) (A 2) (A 3) (A 4) (A 5) :=
  (read_all main_v15 ((hdat hd5 c A R).arrAt 6 (hcfg (F := F) hd5).N)).symm.trans ((hread hd5 c A R).trans (by
    rw [hOut, show hD hd5 c A = A 0 from read_all main_v14 (A 0), show hKt hd5 c A = A 1 from read_all main_v2 (A 1), show hV hd5 c A = A 2 from read_all main_arg5 (A 2),
      show hX hd5 c A = A 3 from read_all main_v13 (A 3), show hA hd5 c A = A 4 from read_all main_v0 (A 4), show hB hd5 c A = A 5 from read_all main_v1 (A 5)]))
theorem each12 : Entered cfg12 (fun c => hdat hd5 c (fun w => W c (Proc.devRef .tc (Pipeline.arrRef (hcfg (F := F) hd5).spec w))) (Pipeline.scopedRestBut spec12 c [cc12_scratch0])) W
    (fun c => Function.update (W c) main_v15 (hdArr (F := F) (W c main_v14) (W c main_v2) (W c main_arg5) (W c main_v13) (W c main_v0) (W c main_v1))) :=
  hd_entered hd5 _ _ _ winFacts12.arr_inj (fun c => (scopedRest12_split c).trans (one_owns c _ _)) fun c => congrArg (Function.update (W c) (main_v15 : DevRef τ sig)) (out12 c _ _)
theorem out13 (c : Dev nD) (A) (R : sProp 𝕄) : (lgdat c A R).arrAt 2 cfg13.N = lgArr (F := F) (A 0) (A 1) :=
  (read_all main_v19 ((lgdat c A R).arrAt 2 cfg13.N)).symm.trans ((lgread c A R).trans (by
    rw [lgOut, show lgX c A = A 0 from read_all main_v18 (A 0), show lgV c A = A 1 from read_all main_arg1 (A 1)]))
theorem each13 : Entered cfg13 (fun c => lgdat c (fun w => W c (Proc.devRef .tc (Pipeline.arrRef spec13 w))) (Pipeline.scopedRest spec13 c)) W
    (fun c => Function.update (W c) main_v19 (lgArr (F := F) (W c main_v18) (W c main_arg1))) :=
  lg_entered _ _ fun c => congrArg (Function.update (W c) (main_v19 : DevRef τ sig)) (out13 c _ _)

end Each

include h

theorem ent0 : Entered cfg0 (pdats m outs 0) (V1 m) (V2 m outs) :=
  (each0 (V1 m)).left fun c => congrArg (Function.update _ (_ : DevRef τ sig)) (h.km c).symm
theorem ent1 : Entered cfg1 (pdats m outs 1) (V3 m outs) (V4 m outs) :=
  (each1 (V3 m outs)).left fun c => congrArg (Function.update _ (_ : DevRef τ sig)) (h.voc0 c).symm
theorem ent2 : Entered cfg2 (pdats m outs 2) (V4 m outs) (V5 m outs) :=
  (each2 (V4 m outs)).left fun c => congrArg (Function.update _ (_ : DevRef τ sig)) (h.hd0 c).symm
theorem ent3 : Entered cfg3 (pdats m outs 3) (V5 m outs) (V6 m outs) :=
  (each3 (V5 m outs)).left fun c => congrArg (Function.update _ (_ : DevRef τ sig)) (h.voc1 c).symm
theorem ent4 : Entered cfg4 (pdats m outs 4) (V6 m outs) (V7 m outs) :=
  (each4 (V6 m outs)).left fun c => congrArg (Function.update _ (_ : DevRef τ sig)) (h.hd1 c).symm
theorem ent5 : Entered cfg5 (pdats m outs 5) (V7 m outs) (V8 m outs) :=
  (each5 (V7 m outs)).left fun c => congrArg (Function.update _ (_ : DevRef τ sig)) (h.voc2 c).symm
theorem ent6 : Entered cfg6 (pdats m outs 6) (V8 m outs) (V9 m outs) :=
  (each6 (V8 m outs)).left fun c => congrArg (Function.update _ (_ : DevRef τ sig)) (h.hd2 c).symm
theorem ent7 : Entered cfg7 (pdats m outs 7) (V9 m outs) (V10 m outs) :=
  (each7 (V9 m outs)).left fun c => congrArg (Function.update _ (_ : DevRef τ sig)) (h.voc3 c).symm
theorem ent8 : Entered cfg8 (pdats m outs 8) (V10 m outs) (V11 m outs) :=
  (each8 (V10 m outs)).left fun c => congrArg (Function.update _ (_ : DevRef τ sig)) (h.hd3 c).symm
theorem ent9 : Entered cfg9 (pdats m outs 9) (V11 m outs) (V12 m outs) :=
  (each9 (V11 m outs)).left fun c => congrArg (Function.update _ (_ : DevRef τ sig)) (h.voc4 c).symm
theorem ent10 : Entered cfg10 (pdats m outs 10) (V12 m outs) (V13 m outs) :=
  (each10 (V12 m outs)).left fun c => congrArg (Function.update _ (_ : DevRef τ sig)) (h.hd4 c).symm
theorem ent11 : Entered cfg11 (pdats m outs 11) (V13 m outs) (V14 m outs) :=
  (each11 (V13 m outs)).left fun c => congrArg (Function.update _ (_ : DevRef τ sig)) (h.voc5 c).symm
theorem ent12 : Entered cfg12 (pdats m outs 12) (V14 m outs) (V15 m outs) :=
  (each12 (V14 m outs)).left fun c => congrArg (Function.update _ (_ : DevRef τ sig)) (h.hd5 c).symm
theorem ent13 : Entered cfg13 (pdats m outs 13) (V17 m outs) (V18 m outs) :=
  (each13 (V17 m outs)).left fun c => congrArg (Function.update _ (_ : DevRef τ sig)) (h.lg c).symm

end Cert.KernelIdeal.Hand

end

end
-- ==== Proof.Run.lean ====
/- The run of the program: the fourteen kernel regions between the host's operations, and what the result holds at the end. -/
module

public import proofs.«01_k».proof.Proof.Regions

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

/-! ## The launch -/

abbrev EP : Emb (UR sig nD τ) 𝕄 := emb₁

/-- The launch element: the pipelines' cells and tokens. -/
def u₀ : UR sig nD τ := initOf (Pipeline.cells cfgs cellOf_inj) (Pipeline.launchToks cfgs cellOf_inj)

theorem hu₀ : (ownU u₀ : sProp 𝕄) ⊢ |={Set.univ}=> iprop(BI.own (EP (F := F) (initOf (Pipeline.cells cfgs cellOf_inj) (Pipeline.launchToks cfgs cellOf_inj)))
    ∗ bigSep Finset.univ fun _ : Dev nD => iprop(emp)) := by
  show (ownU u₀ : sProp 𝕄) ⊢ |={Set.univ}=> iprop(ownU u₀ ∗ bigSep Finset.univ fun _ : Dev nD => iprop(emp))
  rw [show (bigSep (Finset.univ : Finset (Dev nD)) fun _ => (iprop(emp) : sProp 𝕄)) = iprop(emp) from bigSep_emp_const _]
  iintro H
  imodintro
  isplitl
  · iexact H
  · iempintro

/-- The cores' rest at the launch. -/
theorem hE0 : iprop((bigSep Finset.univ fun c : Dev nD => iprop(unscopedSems0 c ∗ owes (c : Thread nD τ) (0 : CellTallies nD τ sig Unit) ∅
      ∗ Pipeline.launchCred (fun _ => 0) c ∗ prngReg c (ρ c) ∗ emp)) ∗ levAts L lv)
    ⊢ (|={Set.univ}=> bigSep Finset.univ (Rode (F := F)) : sProp 𝕄) := by
  have hone : ∀ c : Dev nD, iprop(unscopedSems0 c ∗ owes (c : Thread nD τ) (0 : CellTallies nD τ sig Unit) ∅
      ∗ Pipeline.launchCred (fun _ => 0) c ∗ prngReg c (ρ c) ∗ emp) ⊢ (Rode (F := F) c : sProp 𝕄) := fun c => by
    iintro ⟨-, HO, -⟩
    iexists _; iexact HO
  have hall : (bigSep Finset.univ fun c : Dev nD => iprop(unscopedSems0 c ∗ owes (c : Thread nD τ) (0 : CellTallies nD τ sig Unit) ∅
      ∗ Pipeline.launchCred (fun _ => 0) c ∗ prngReg c (ρ c) ∗ emp)) ⊢ (bigSep Finset.univ (Rode (F := F)) : sProp 𝕄) := bigSep_mono fun c _ => hone c
  iintro ⟨H, -⟩
  imodintro
  ihave H' := hall $$ H
  iexact H'

variable {m outs} (h : Leaves m outs)

include h

set_option backward.isDefEq.respectTransparency.types false in
/-- Every run ends with the arguments as launched, the result at the last valuation, and every counter at zero. -/
theorem run_value :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_v20) = V19 m outs c main_v20)
      ∧ r.2.sem = fun _ => 0) := by
  refine Pipeline.θ_run_regions_kit_dev_sems (pcfgs (F := F)) adm (pdats m outs) () cellOf_inj EP defs₀ Variants.none L lv m ρ main
    (segs m outs Variants.none L lv (fun _ => Rode) () (pdats m outs) (region launch0 (ent0 h)) (region launch1 (ent1 h)) (region launch2 (ent2 h)) (region launch3 (ent3 h)) (region launch4 (ent4 h)) (region launch5 (ent5 h)) (region launch6 (ent6 h)) (region launch7 (ent7 h)) (region launch8 (ent8 h)) (region launch9 (ent9 h)) (region launch10 (ent10 h)) (region launch11 (ent11 h)) (region launch12 (ent12 h)) (region launch13 (ent13 h)))
    (fun c Q => by
      rewrite [main_chain c, Seg.run_eq_chain,
        show (segs m outs Variants.none L lv (fun _ => Rode) () (pdats m outs) (region launch0 (ent0 h)) (region launch1 (ent1 h)) (region launch2 (ent2 h)) (region launch3 (ent3 h)) (region launch4 (ent4 h)) (region launch5 (ent5 h)) (region launch6 (ent6 h)) (region launch7 (ent7 h)) (region launch8 (ent8 h)) (region launch9 (ent9 h)) (region launch10 (ent10 h)) (region launch11 (ent11 h)) (region launch12 (ent12 h)) (region launch13 (ent13 h)) c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()),
          Prog.lift (.customCall (Pipeline.entry 6) ()),
          Prog.lift (.customCall (Pipeline.entry 7) ()),
          Prog.lift (.customCall (Pipeline.entry 8) ()),
          Prog.lift (.customCall (Pipeline.entry 9) ()),
          Prog.lift (.customCall (Pipeline.entry 10) ()),
          Prog.lift (.customCall (Pipeline.entry 11) ()),
          Prog.lift (.customCall (Pipeline.entry 12) ()),
          StableHlo.seq hostOps13,
          StableHlo.seq hostOps13_1,
          Prog.lift (.customCall (Pipeline.entry 13) ()),
          StableHlo.seq hostOps14 ] from rfl]
      dsimp (config := { failIfUnchanged := false }) only
      exact .rfl)
    (fun c => by simp only [segs, Seg.pipes_host, Seg.pipes_region, Seg.pipes_nil]; decide) (fun _ => 0) (fun g hg => if_neg hg) (fun _ => iprop(emp)) u₀ hu₀
    (T₀ := fun c => iprop(StableHlo.held (c : Thread nD τ) (Pipeline.ucRefs τ sig) (V0 m c) ∗ Rode c))
    (Tₙ := fun c => StableHlo.held (c : Thread nD τ) (Pipeline.ucRefs τ sig) (V19 m outs c))
    (hch := fun c => ⟨.rfl, region_pre launch0 (ent0 h) c, region_post launch0 (ent0 h) c, region_pre launch1 (ent1 h) c, (region_post launch1 (ent1 h) c).trans (region_pre launch2 (ent2 h) c), (region_post launch2 (ent2 h) c).trans (region_pre launch3 (ent3 h) c), (region_post launch3 (ent3 h) c).trans (region_pre launch4 (ent4 h) c), (region_post launch4 (ent4 h) c).trans (region_pre launch5 (ent5 h) c), (region_post launch5 (ent5 h) c).trans (region_pre launch6 (ent6 h) c), (region_post launch6 (ent6 h) c).trans (region_pre launch7 (ent7 h) c), (region_post launch7 (ent7 h) c).trans (region_pre launch8 (ent8 h) c), (region_post launch8 (ent8 h) c).trans (region_pre launch9 (ent9 h) c), (region_post launch9 (ent9 h) c).trans (region_pre launch10 (ent10 h) c), (region_post launch10 (ent10 h) c).trans (region_pre launch11 (ent11 h) c), (region_post launch11 (ent11 h) c).trans (region_pre launch12 (ent12 h) c), region_post launch12 (ent12 h) c, .rfl, region_pre launch13 (ent13 h) c, region_post launch13 (ent13 h) c, sep_mono .rfl .rfl⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_v20) = V19 m outs c main_v20)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V19 m outs c) s') $$ [Hh HSI]
    · isplitl [Hh] <;> iassumption
    icases Hr with ⟨%h', HSI⟩
    imodintro
    isplitr
    · ipureintro
      exact ⟨(h' (Proc.devRef .tc main_arg0) (Finset.mem_filter.mpr ⟨StableHlo.devRef_mem_tcRefs main_arg0, by decide⟩)).trans (V19_main_arg0 m outs c),
        (h' (Proc.devRef .tc main_arg1) (Finset.mem_filter.mpr ⟨StableHlo.devRef_mem_tcRefs main_arg1, by decide⟩)).trans (V19_main_arg1 m outs c),
        (h' (Proc.devRef .tc main_arg2) (Finset.mem_filter.mpr ⟨StableHlo.devRef_mem_tcRefs main_arg2, by decide⟩)).trans (V19_main_arg2 m outs c),
        (h' (Proc.devRef .tc main_arg3) (Finset.mem_filter.mpr ⟨StableHlo.devRef_mem_tcRefs main_arg3, by decide⟩)).trans (V19_main_arg3 m outs c),
        (h' (Proc.devRef .tc main_arg4) (Finset.mem_filter.mpr ⟨StableHlo.devRef_mem_tcRefs main_arg4, by decide⟩)).trans (V19_main_arg4 m outs c),
        (h' (Proc.devRef .tc main_arg5) (Finset.mem_filter.mpr ⟨StableHlo.devRef_mem_tcRefs main_arg5, by decide⟩)).trans (V19_main_arg5 m outs c),
        (h' (Proc.devRef .tc main_arg6) (Finset.mem_filter.mpr ⟨StableHlo.devRef_mem_tcRefs main_arg6, by decide⟩)).trans (V19_main_arg6 m outs c),
        (h' (Proc.devRef .tc main_arg7) (Finset.mem_filter.mpr ⟨StableHlo.devRef_mem_tcRefs main_arg7, by decide⟩)).trans (V19_main_arg7 m outs c),
        h' (Proc.devRef .tc main_v20) (Finset.mem_filter.mpr ⟨StableHlo.devRef_mem_tcRefs main_v20, by decide⟩)⟩
    · iexact HSI

end Cert.KernelIdeal.Hand

end

end
-- ==== Proof.Result.lean ====
/- What the calls leave, from the arguments alone: the iterates, the differences, the tables and the logits; the values of the
   fourteen calls of `Leaves`; and the program's result. -/
module

public import Idealize.ShloMosaic.Lib.StableHlo.RunRead
public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf Seg HostSeg RegionSeg)

variable {F : FTy → Type} [FloatOps F]

variable (m : (ℓ : Loc nD τ sig) → Buf (Elt F) ℓ) (ρ : Dev nD → PrngReg) (c : Dev nD)

/-- The tables of the twelve heads. -/
def kms : Vec F S12x1025x1024 .f32 :=
  kmArr (m ((c : Thread nD τ).loc main_arg2)) (m ((c : Thread nD τ).loc main_arg3)) (m ((c : Thread nD τ).loc main_arg4))
/-- The heads' rates in a row. -/
def rates : Vec F S1x12 .f32 := shapeCast S1x12 (m ((c : Thread nD τ).loc main_arg6) : Vec F S12x1x1 .f32) shapeCasts_S12x1x1_S1x12
/-- The bias rate. -/
def bias : Vec F S1x1 .f32 := shapeCast S1x1 (m ((c : Thread nD τ).loc main_arg7) : Vec F S1x1x1 .f32) shapeCasts_S1x1x1_S1x1
/-- The difference a trip computes from the iterate it starts with. -/
def dOf (f : Vec F S2x1025x768 .f32) : Vec F S2x1024x768 .f32 :=
  vocArr f (m ((c : Thread nD τ).loc main_arg1)) (m ((c : Thread nD τ).loc main_arg0))
/-- The iterate after `n` trips. -/
def fs : ℕ → Vec F S2x1025x768 .f32
  | 0 => broadcastInDim S2x1025x768 ![] bcast_S_S2x1025x768 (constant S_ .f32 0x00000000#32)
  | n + 1 => hdArr (dOf m c (fs n)) (kms m c) (m ((c : Thread nD τ).loc main_arg5)) (fs n) (rates m c) (bias m c)
/-- The last position's rows, followed by rows of zeros. -/
def lastRows (f : Vec F S2x1025x768 .f32) : Vec F S8x768 .f32 :=
  pad S8x768 ![0, 0] ![6, 0] ![0, 0] (shapeCast S2x768 (extractStridedSlice S2x1x768 ![0, 1024, 0] f slices_S2x1025x768_S2x1x768_0_1024_0) shapeCasts_S2x1x768_S2x768)
    (sitofp .f32 (constantI S_ 32 0#32)) pads_S2x768_S8x768_060_000 h_S_
/-- The logits of the last rows. -/
def lgs : Vec F S8x32000 .f32 := lgArr (lastRows (fs m c 6)) (m ((c : Thread nD τ).loc main_arg1))

/-- What each call leaves in the array it writes. -/
def outv : Outs (F := F) := fun k r c => match k with
  | 2 => Function.update (V0 m c) main_v2 (kms m c) r
  | 4 => Function.update (V0 m c) main_v4 (dOf m c (fs m c 0)) r
  | 5 => Function.update (V0 m c) main_v5 (fs m c 1) r
  | 6 => Function.update (V0 m c) main_v6 (dOf m c (fs m c 1)) r
  | 7 => Function.update (V0 m c) main_v7 (fs m c 2) r
  | 8 => Function.update (V0 m c) main_v8 (dOf m c (fs m c 2)) r
  | 9 => Function.update (V0 m c) main_v9 (fs m c 3) r
  | 10 => Function.update (V0 m c) main_v10 (dOf m c (fs m c 3)) r
  | 11 => Function.update (V0 m c) main_v11 (fs m c 4) r
  | 12 => Function.update (V0 m c) main_v12 (dOf m c (fs m c 4)) r
  | 13 => Function.update (V0 m c) main_v13 (fs m c 5) r
  | 14 => Function.update (V0 m c) main_v14 (dOf m c (fs m c 5)) r
  | 15 => Function.update (V0 m c) main_v15 (fs m c 6) r
  | 18 => Function.update (V0 m c) main_v19 (lgs m c) r
  | _ => V0 m c r

/-- The arrays the vocabulary's and the heads' calls write. -/
def late : List (Ref sig .tc) := [main_v4, main_v5, main_v6, main_v7, main_v8, main_v9, main_v10, main_v11, main_v12, main_v13, main_v14, main_v15]

/-- The arrays the calls read and none of them writes. -/
structure Kept (W : Valuation τ sig (Elt F)) : Prop where
  e : W main_arg0 = m ((c : Thread nD τ).loc main_arg0)
  we : W main_arg1 = m ((c : Thread nD τ).loc main_arg1)
  wv : W main_arg5 = m ((c : Thread nD τ).loc main_arg5)
  a : W main_v0 = rates m c
  b : W main_v1 = bias m c
  k : W main_v2 = kms m c

variable {m c} in
theorem Kept.next {W : Valuation τ sig (Elt F)} (h : Kept m c W) {x : Ref sig .tc} (hx : x ∈ late) (v) :
    Kept m c (Function.update W (Proc.devRef .tc x) v) := by
  have hne : ∀ r : Ref sig .tc, r ∉ late → Function.update W (Proc.devRef .tc x) v (Proc.devRef .tc r) = W (Proc.devRef .tc r) := fun r hr =>
    Function.update_of_ne (StableHlo.devRef_ne_of_ne (by rintro rfl; exact hr hx)) _ _
  exact ⟨(hne _ (by decide)).trans h.e, (hne _ (by decide)).trans h.we, (hne _ (by decide)).trans h.wv, (hne _ (by decide)).trans h.a,
    (hne _ (by decide)).trans h.b, (hne _ (by decide)).trans h.k⟩

/-- The two reshaped rates. -/
theorem rates_read (W : Valuation τ sig (Elt F)) :
    StableHlo.after (hostOps0 (F := F)) W main_v0 = (shapeCast S1x12 (W main_arg6 : Vec F S12x1x1 .f32) shapeCasts_S12x1x1_S1x12 : Vec F S1x12 .f32)
    ∧ StableHlo.after (hostOps0 (F := F)) W main_v1 = (shapeCast S1x1 (W main_arg7 : Vec F S1x1x1 .f32) shapeCasts_S1x1x1_S1x1 : Vec F S1x1 .f32) := by
  constructor <;> (after_reads_simp; rfl)
/-- The first iterate. -/
theorem zero_read (W : Valuation τ sig (Elt F)) : StableHlo.after (hostOps1 (F := F)) W main_v3
    = (broadcastInDim S2x1025x768 ![] bcast_S_S2x1025x768 (constant S_ .f32 0x00000000#32) : Vec F S2x1025x768 .f32) := by
  after_reads_simp
/-- The padded rows. -/
theorem rows_read (W : Valuation τ sig (Elt F)) : StableHlo.after (hostOps13_1 (F := F)) (StableHlo.after (hostOps13 (F := F)) W) main_v18
    = lastRows (F := F) (W main_v15) := by
  after_reads_simp; rfl
/-- The result. -/
theorem result_read (W : Valuation τ sig (Elt F)) : StableHlo.after (hostOps14 (F := F)) W main_v20
    = (extractStridedSlice S2x32000 ![0, 0] (W main_v19 : Vec F S8x32000 .f32) slices_S8x32000_S2x32000_0_0 : Vec F S2x32000 .f32) := by
  after_reads_simp

/-- What the `j`-th valuation holds at the array just written: the call's value. -/
theorem lastly {W : Valuation τ sig (Elt F)} {x : Ref sig .tc} {v o : Buf (Elt F) ((c : Thread nD τ).loc x)} (h : o = v) :
    Function.update W (Proc.devRef .tc x) o (Proc.devRef .tc x) = v := (Function.update_self ..).trans h

/-- A table with one entry set, read there. -/
theorem at_ref (x : Ref sig .tc) (v : Buf (Elt F) ((c : Thread nD τ).loc x)) :
    Function.update (V0 m c) (Proc.devRef .tc x) v (Proc.devRef .tc x) = v := Function.update_self ..

theorem kept3 : Kept m c (V3 m (outv m) c) :=
  have h (r : Ref sig .tc) (h1 : r ∉ hostOps1_W) (h2 : r ∉ ([main_v2] : List (Ref sig .tc))) : V3 m (outv m) c r = V1 m c r :=
    (V3_of m (outv m) c r h1).trans (V2_of m (outv m) c r h2)
  ⟨(h _ (by decide) (by decide)).trans (V1_of m c _ (by decide)), (h _ (by decide) (by decide)).trans (V1_of m c _ (by decide)),
   (h _ (by decide) (by decide)).trans (V1_of m c _ (by decide)), (h _ (by decide) (by decide)).trans (rates_read (V0 m c)).1,
   (h _ (by decide) (by decide)).trans (rates_read (V0 m c)).2,
   (V3_of m (outv m) c main_v2 (by decide)).trans (lastly c (at_ref m c main_v2 (kms m c)))⟩

variable {m c} in
theorem voc_leaf {W : Valuation τ sig (Elt F)} (h : Kept m c W) {o : Vec F S2x1024x768 .f32} {f f' : Vec F S2x1025x768 .f32}
    (ho : o = dOf m c f') (hf : f = f') : o = vocArr (F := F) f (W main_arg1) (W main_arg0) := by
  rw [ho, hf, h.e, h.we]; rfl

variable {m c} in
theorem hd_leaf {W : Valuation τ sig (Elt F)} (h : Kept m c W) {o : Vec F S2x1025x768 .f32} {d : Vec F S2x1024x768 .f32} {f : Vec F S2x1025x768 .f32} {n : ℕ}
    (ho : o = fs m c (n + 1)) (hd : d = dOf m c (fs m c n)) (hf : f = fs m c n) :
    o = hdArr (F := F) d (W main_v2) (W main_arg5) f (W main_v0) (W main_v1) := by
  rw [ho, hd, hf, h.k, h.wv, h.a, h.b]; rfl

theorem kepts : Kept m c (V4 m (outv m) c) ∧ Kept m c (V5 m (outv m) c) ∧ Kept m c (V6 m (outv m) c) ∧ Kept m c (V7 m (outv m) c)
    ∧ Kept m c (V8 m (outv m) c) ∧ Kept m c (V9 m (outv m) c) ∧ Kept m c (V10 m (outv m) c) ∧ Kept m c (V11 m (outv m) c)
    ∧ Kept m c (V12 m (outv m) c) ∧ Kept m c (V13 m (outv m) c) ∧ Kept m c (V14 m (outv m) c) ∧ Kept m c (V15 m (outv m) c) := by
  have k4 : Kept m c (V4 m (outv m) c) := (kept3 m c).next (x := main_v4) (by decide) _
  have k5 : Kept m c (V5 m (outv m) c) := k4.next (x := main_v5) (by decide) _
  have k6 : Kept m c (V6 m (outv m) c) := k5.next (x := main_v6) (by decide) _
  have k7 : Kept m c (V7 m (outv m) c) := k6.next (x := main_v7) (by decide) _
  have k8 : Kept m c (V8 m (outv m) c) := k7.next (x := main_v8) (by decide) _
  have k9 : Kept m c (V9 m (outv m) c) := k8.next (x := main_v9) (by decide) _
  have k10 : Kept m c (V10 m (outv m) c) := k9.next (x := main_v10) (by decide) _
  have k11 : Kept m c (V11 m (outv m) c) := k10.next (x := main_v11) (by decide) _
  have k12 : Kept m c (V12 m (outv m) c) := k11.next (x := main_v12) (by decide) _
  have k13 : Kept m c (V13 m (outv m) c) := k12.next (x := main_v13) (by decide) _
  have k14 : Kept m c (V14 m (outv m) c) := k13.next (x := main_v14) (by decide) _
  have k15 : Kept m c (V15 m (outv m) c) := k14.next (x := main_v15) (by decide) _
  exact ⟨k4, k5, k6, k7, k8, k9, k10, k11, k12, k13, k14, k15⟩

theorem h15 : V15 m (outv m) c main_v15 = fs m c 6 := lastly c (at_ref m c main_v15 (fs m c 6))

theorem leaves : Leaves m (outv m) where
  km c := by
    rw [V1_of m c main_arg2 (by decide), V1_of m c main_arg3 (by decide), V1_of m c main_arg4 (by decide)]
    exact at_ref m c main_v2 (kms m c)
  voc0 c := voc_leaf (kept3 m c) (at_ref m c main_v4 (dOf m c (fs m c 0))) (zero_read _)
  hd0 c := hd_leaf ((kepts m c).1) (n := 0) (at_ref m c main_v5 (fs m c 1)) (lastly c (at_ref m c main_v4 (dOf m c (fs m c 0)))) ((V4_of m (outv m) c main_v3 (by decide)).trans (zero_read _))
  voc1 c := voc_leaf ((kepts m c).2.1) (at_ref m c main_v6 (dOf m c (fs m c 1))) (lastly c (at_ref m c main_v5 (fs m c 1)))
  hd1 c := hd_leaf ((kepts m c).2.2.1) (n := 1) (at_ref m c main_v7 (fs m c 2)) (lastly c (at_ref m c main_v6 (dOf m c (fs m c 1)))) ((V6_of m (outv m) c main_v5 (by decide)).trans (lastly c (at_ref m c main_v5 (fs m c 1))))
  voc2 c := voc_leaf ((kepts m c).2.2.2.1) (at_ref m c main_v8 (dOf m c (fs m c 2))) (lastly c (at_ref m c main_v7 (fs m c 2)))
  hd2 c := hd_leaf ((kepts m c).2.2.2.2.1) (n := 2) (at_ref m c main_v9 (fs m c 3)) (lastly c (at_ref m c main_v8 (dOf m c (fs m c 2)))) ((V8_of m (outv m) c main_v7 (by decide)).trans (lastly c (at_ref m c main_v7 (fs m c 2))))
  voc3 c := voc_leaf ((kepts m c).2.2.2.2.2.1) (at_ref m c main_v10 (dOf m c (fs m c 3))) (lastly c (at_ref m c main_v9 (fs m c 3)))
  hd3 c := hd_leaf ((kepts m c).2.2.2.2.2.2.1) (n := 3) (at_ref m c main_v11 (fs m c 4)) (lastly c (at_ref m c main_v10 (dOf m c (fs m c 3)))) ((V10_of m (outv m) c main_v9 (by decide)).trans (lastly c (at_ref m c main_v9 (fs m c 3))))
  voc4 c := voc_leaf ((kepts m c).2.2.2.2.2.2.2.1) (at_ref m c main_v12 (dOf m c (fs m c 4))) (lastly c (at_ref m c main_v11 (fs m c 4)))
  hd4 c := hd_leaf ((kepts m c).2.2.2.2.2.2.2.2.1) (n := 4) (at_ref m c main_v13 (fs m c 5)) (lastly c (at_ref m c main_v12 (dOf m c (fs m c 4)))) ((V12_of m (outv m) c main_v11 (by decide)).trans (lastly c (at_ref m c main_v11 (fs m c 4))))
  voc5 c := voc_leaf ((kepts m c).2.2.2.2.2.2.2.2.2.1) (at_ref m c main_v14 (dOf m c (fs m c 5))) (lastly c (at_ref m c main_v13 (fs m c 5)))
  hd5 c := hd_leaf ((kepts m c).2.2.2.2.2.2.2.2.2.2.1) (n := 5) (at_ref m c main_v15 (fs m c 6)) (lastly c (at_ref m c main_v14 (dOf m c (fs m c 5)))) ((V14_of m (outv m) c main_v13 (by decide)).trans (lastly c (at_ref m c main_v13 (fs m c 5))))
  lg c := by
    rw [show V17 m (outv m) c main_v18 = lastRows (F := F) (fs m c 6) from (rows_read (V15 m (outv m) c)).trans (congrArg (lastRows (F := F)) (h15 m c)),
      show V17 m (outv m) c main_arg1 = m ((c : Thread nD τ).loc main_arg1) from ((V17_of m (outv m) c main_arg1 (by decide)).trans (V16_of m (outv m) c main_arg1 (by decide))).trans (kepts m c).2.2.2.2.2.2.2.2.2.2.2.we]
    exact at_ref m c main_v19 (lgs m c)

/-- The result, from the arguments. -/
def result : Vec F S2x32000 .f32 := extractStridedSlice S2x32000 ![0, 0] (lgs m c) slices_S8x32000_S2x32000_0_0

theorem result_eq : V19 m (outv m) c main_v20 = result m c := by
  have h : V18 m (outv m) c main_v19 = lgs m c := lastly c (at_ref m c main_v19 (lgs m c))
  refine (result_read (V18 m (outv m) c)).trans ?_
  rw [h]; rfl

end Cert.KernelIdeal.Hand

end

end
-- ==== Proof.Reals.lean ====
/- Extended reals that are real numbers: the operations of the two programs keep to them. -/
module

public import Idealize.ShloMosaic.PureOps.Ideal.Laws

@[expose] public section

noncomputable section

namespace Cert.Reals

open Idealize.ShloMosaic

/-- A real number. -/
def IsR (x : EReal) : Prop := ∃ r : ℝ, x = (r : EReal)
/-- A real number that is not negative. -/
def IsN (x : EReal) : Prop := ∃ r : ℝ, 0 ≤ r ∧ x = (r : EReal)

theorem IsN.isR {x : EReal} (h : IsN x) : IsR x := let ⟨r, _, e⟩ := h; ⟨r, e⟩
theorem IsR.add {x y : EReal} : IsR x → IsR y → IsR (x + y)
  | ⟨r, hr⟩, ⟨s, hs⟩ => ⟨r + s, by rw [hr, hs, EReal.coe_add]⟩
theorem IsN.add {x y : EReal} : IsN x → IsN y → IsN (x + y)
  | ⟨r, h, hr⟩, ⟨s, k, hs⟩ => ⟨r + s, add_nonneg h k, by rw [hr, hs, EReal.coe_add]⟩
theorem IsR.sub {x y : EReal} : IsR x → IsR y → IsR (x - y)
  | ⟨r, hr⟩, ⟨s, hs⟩ => ⟨r - s, by rw [hr, hs, EReal.coe_sub]⟩
theorem IsR.mul {x y : EReal} : IsR x → IsR y → IsR (x * y)
  | ⟨r, hr⟩, ⟨s, hs⟩ => ⟨r * s, by rw [hr, hs, EReal.coe_mul]⟩
theorem IsR.exp {x : EReal} : IsR x → IsN (Ideal.exp x)
  | ⟨r, hr⟩ => ⟨Real.exp r, (Real.exp_pos r).le, by rw [hr, Ideal.exp_coe]⟩
theorem isR_zero : IsR 0 := ⟨0, rfl⟩
theorem isN_zero : IsN 0 := ⟨0, le_refl _, rfl⟩

theorem IsR.sum {ι : Type} (s : Finset ι) (f : ι → EReal) (h : ∀ i, IsR (f i)) : IsR (∑ i ∈ s, f i) := by
  classical
  induction s using Finset.induction_on with
  | empty => exact isR_zero
  | insert i s hi ih => rw [Finset.sum_insert hi]; exact (h i).add ih
theorem IsN.sum {ι : Type} (s : Finset ι) (f : ι → EReal) (h : ∀ i, IsN (f i)) : IsN (∑ i ∈ s, f i) := by
  classical
  induction s using Finset.induction_on with
  | empty => exact isN_zero
  | insert i s hi ih => rw [Finset.sum_insert hi]; exact (h i).add ih

/-- A factor leaves a sum of real numbers. -/
theorem IsR.sum_mul {ι : Type} (s : Finset ι) (f : ι → EReal) (h : ∀ i, IsR (f i)) {b : EReal} (hb : IsR b) :
    (∑ i ∈ s, f i) * b = ∑ i ∈ s, f i * b := by
  classical
  induction s using Finset.induction_on with
  | empty => simp
  | insert i s hi ih =>
    rw [Finset.sum_insert hi, Finset.sum_insert hi, ← ih]
    obtain ⟨r, hr⟩ := h i
    obtain ⟨t, ht⟩ := IsR.sum s f h
    obtain ⟨b', rfl⟩ := hb
    rw [hr, ht, ← EReal.coe_add, ← EReal.coe_mul, ← EReal.coe_mul, ← EReal.coe_mul, ← EReal.coe_add, add_mul]

/-- The small constant added to the normaliser. -/
theorem eps_pos : ∃ r : ℝ, 0 < r ∧ Ideal.ofBits .f32 0x322BCC77#32 = (r : EReal) :=
  ⟨11258999 * (2 : ℝ) ^ (-50 : ℤ), by positivity, by simp [Ideal.ofBits, Ideal.ieee, -EReal.coe_mul]⟩
/-- The reciprocal of the sequence's length. -/
theorem inv_isR : IsR (Ideal.ofBits .f32 0x3A800000#32) :=
  ⟨8388608 * (2 : ℝ) ^ (-33 : ℤ), by simp [Ideal.ofBits, Ideal.ieee, -EReal.coe_mul]⟩
/-- The greatest finite number of the format. -/
theorem max_isR : IsR (Ideal.ofBits .f32 0x7F7FFFFF#32) :=
  ⟨16777215 * (2 : ℝ) ^ (104 : ℤ), by simp [Ideal.ofBits, Ideal.ieee, -EReal.coe_mul]⟩

/-- A quotient by a sum that is not negative plus the small constant. -/
theorem IsR.div {x d : EReal} (hx : IsR x) (hd : IsN d) : IsR (Ideal.div x (d + Ideal.ofBits .f32 0x322BCC77#32)) := by
  obtain ⟨r, h0, rfl⟩ := hd
  obtain ⟨e, he, hq⟩ := eps_pos
  rw [hq, ← EReal.coe_add, Ideal.div_coe (ne_of_gt (add_pos_of_nonneg_of_pos h0 he))]
  exact hx.mul ⟨_, rfl⟩

/-- A number whose absolute value is at most a real number. -/
theorem isR_of_abs_le {x y : EReal} (hy : IsR y) (h : max x (-x) ≤ y) : IsR x := by
  obtain ⟨r, rfl⟩ := hy
  induction x using EReal.rec with
  | bot => exact absurd (le_trans (le_max_right _ _) h) (by simp)
  | top => exact absurd (le_trans (le_max_left _ _) h) (by simp)
  | coe x => exact ⟨x, rfl⟩

end Cert.Reals

end

end
-- ==== Proof.Finite.lean ====
/- The precondition read back: every element of every argument is a real number. -/
module

public import proofs.«01_k».proof.Pre_finite
public import proofs.«01_k».proof.Proof.Reals
public import Idealize.ShloMosaic.Lib.ReduceAll
public import Idealize.ShloMosaic.Lib.Pipeline.ValueKit

@[expose] public section

set_option maxRecDepth 16384

noncomputable section

namespace Cert.Pre_finite.Hand

open Idealize.ShloMosaic Cert.Pre_finite Cert.Reals
open Cert.Pre_finite.Facts

theorem facts : Cert.Pre_finite.Facts := by
  constructor <;> decide

instance : Subsingleton S_.Idx := ⟨fun a b => funext fun i => i.elim0⟩

/-- One array's test says its elements are real numbers. -/
theorem read_all {s : Shape} {axes : List (Fin s.rank)} (x : FVec Ideal s .f32) (hb : S_.BroadcastsInDim s (![] : Fin 0 → Fin s.rank)) (h : s.ReducesTo axes S_)
    (hu : 0 < S_.numel) (j : S_.Idx)
    (e : Host.reduce IntOp.andi (cmpf .ole (Host.absf x) (broadcastInDim s ![] hb (constant S_ .f32 0x7F7FFFFF#32))) (constantI S_ 1 1#1) h hu j = 1#1) (i : s.Idx) : IsR (x i) := by
  have h1 := Host.reduce_andi_all _ _ h hu j e i
  have h2 : Ideal.cmp .ole (max (x i) (-(x i))) (Ideal.ofBits .f32 0x7F7FFFFF#32) = 1#1 := h1
  refine isR_of_abs_le max_isR ?_
  by_contra hn
  simp [Ideal.cmp, hn] at h2

variable [Facts] (e : FVec Ideal S2x1024x768 .f32) (we : FVec Ideal S32000x768 .f32) (p : FVec Ideal S1025x768 .f32) (k q v : FVec Ideal S12x768x768 .f32)
  (a : FVec Ideal S12x1x1 .f32) (b : FVec Ideal S1x1x1 .f32)

/-- The precondition, element by element. -/
theorem reads (h : fn e we p k q v a b = fun _ => 1#1) :
    (∀ i, IsR (e i)) ∧ (∀ i, IsR (we i)) ∧ (∀ i, IsR (p i)) ∧ (∀ i, IsR (k i)) ∧ (∀ i, IsR (q i)) ∧ (∀ i, IsR (v i)) ∧ (∀ i, IsR (a i)) ∧ (∀ i, IsR (b i)) := by
  have h0 := congrFun h (fun i => i.elim0)
  dsimp only [fn, fn_part1, fn_part2] at h0
  obtain ⟨h0, hb⟩ := IntOp.andi_eq_one.1 h0
  obtain ⟨h0, ha⟩ := IntOp.andi_eq_one.1 h0
  obtain ⟨h0, hv⟩ := IntOp.andi_eq_one.1 h0
  obtain ⟨h0, hq⟩ := IntOp.andi_eq_one.1 h0
  obtain ⟨h0, hk⟩ := IntOp.andi_eq_one.1 h0
  obtain ⟨h0, hp⟩ := IntOp.andi_eq_one.1 h0
  obtain ⟨h0, hw⟩ := IntOp.andi_eq_one.1 h0
  obtain ⟨h0, he⟩ := IntOp.andi_eq_one.1 h0
  exact ⟨read_all _ _ _ _ _ he, read_all _ _ _ _ _ hw, read_all _ _ _ _ _ hp, read_all _ _ _ _ _ hk, read_all _ _ _ _ _ hq, read_all _ _ _ _ _ hv,
    read_all _ _ _ _ _ ha, read_all _ _ _ _ _ hb⟩

end Cert.Pre_finite.Hand

end

end
-- ==== Proof.KernelAt.lean ====
/- The kernel's values at one index, over the extended reals: each payload, then the two accumulations as whole sums. -/
module

public import proofs.«01_k».proof.Proof.Result
public import Idealize.ShloMosaic.Lib.Pipeline.ValueKit

@[expose] public section

set_option maxRecDepth 16384

noncomputable section

namespace Cert.KernelIdeal.Hand

open Idealize.ShloMosaic Idealize.ShloMosaic.TcCoe
open Cert.KernelIdeal Cert.KernelIdeal.Gen

/-- Position `t` of the sequence among the iterate's rows. -/
def up (t : Fin 1024) : Fin 1025 := ⟨t.val, Nat.lt_succ_of_lt t.isLt⟩

/-- The weight of one word at one position. -/
def wt (f : Fin 1025 → Fin 768 → EReal) (w : Fin 768 → EReal) (t : Fin 1024) : EReal := Ideal.exp (∑ k, f (up t) k * w k)

theorem num_at (x : Vec Ideal S1x1025x768 .f32) (w : Vec Ideal S1280x768 .f32) (n : Vec Ideal S1024x768 .f32) (t : Fin 1024) (d : Fin 768) :
    vocNum x w n (ix2 t d) = (n (ix2 t d) : EReal) + ∑ v : Fin 1280, wt (fun t k => x (ix3 0 t k)) (fun k => w (ix2 v k)) t * w (ix2 v d) := by
  pointwise [vocNum, k1_pay4, k1_pay3, topRows]
  rfl
theorem den_at (x : Vec Ideal S1x1025x768 .f32) (w : Vec Ideal S1280x768 .f32) (n : Vec Ideal S1024x128 .f32) (t : Fin 1024) (d : Fin 128) :
    vocDen x w n (ix2 t d) = (n (ix2 t d) : EReal) + ∑ v : Fin 1280, wt (fun t k => x (ix3 0 t k)) (fun k => w (ix2 v k)) t := by
  pointwise [vocDen, k1_pay5, k1_pay3, topRows]
  rfl
theorem vout_at (e : Vec Ideal S1x1024x768 .f32) (n : Vec Ideal S1024x768 .f32) (w : Vec Ideal S1024x128 .f32) (t : Fin 1024) (d : Fin 768) :
    vocOut e n w (ix3 0 t d) = (e (ix3 0 t d) : EReal) - Ideal.div (n (ix2 t d)) (w (ix2 t 0) + Ideal.ofBits .f32 0x322BCC77#32) := by
  pointwise [vocOut, k1_pay6]
theorem zero_at (t : Fin 1024) (d : Fin 768) : (k1_pay1 (F := Ideal)) (ix2 t d) = (0 : EReal) := by
  pointwise [k1_pay1]
theorem zero'_at (t : Fin 1024) (d : Fin 128) : (k1_pay2 (F := Ideal)) (ix2 t d) = (0 : EReal) := by
  pointwise [k1_pay2]

theorem hout_at (f : Vec Ideal S1x1025x768 .f32) (n : Vec Ideal S1025x768 .f32) (t : Fin 1025) (d : Fin 768) :
    hdOut f n (ix3 0 t d) = (f (ix3 0 t d) : EReal) + n (ix2 t d) * Ideal.ofBits .f32 0x3A800000#32 := by
  pointwise [hdOut, k2_pay3]
theorem kh_at (p : Vec Ideal S1025x768 .f32) (k q : Vec Ideal S1x768x768 .f32)  (x : Fin 1025) (t : Fin 1024) :
    kmHead p k q (ix3 0 x t) = (∑ e : Fin 768, (∑ d : Fin 768, p (ix2 x d) * q (ix3 0 d e)) * ∑ d : Fin 768, p (ix2 (up t) d) * k (ix3 0 d e) : EReal) := by
  pointwise [kmHead, kmTop, k0_pay1]
  rfl
theorem lgp_at (x : Vec Ideal S8x768 .f32) (w : Vec Ideal S3200x768 .f32) (b : Fin 8) (v : Fin 3200) :
    k13_pay1 x w (ix2 b v) = (∑ k : Fin 768, x (ix2 b k) * w (ix2 v k) : EReal) := by
  pointwise [k13_pay1]

theorem step_at (x : Vec Ideal S1x1024x768 .f32) (k : Vec Ideal S1x1025x1024 .f32) (v : Vec Ideal S1x768x768 .f32) (r : Elt Ideal .f32) (n : Vec Ideal S1025x768 .f32) (t : Fin 1025) (d : Fin 768) :
    hdStep x k v r n (ix2 t d) = (n (ix2 t d) + ∑ s : Fin 1024, k (ix3 0 t s) * ((∑ e : Fin 768, x (ix3 0 s e) * v (ix3 0 e d)) * r) : EReal) := by
  pointwise [hdStep, k2_pay2]
theorem init_at (x : Vec Ideal S1x1024x768 .f32) (b : Vec Ideal S1x1 .f32) (t : Fin 1025) (d : Fin 768) :
    hdInit x b (ix2 t d) = ((∑ s : Fin 1024, x (ix3 0 s d)) * b (ix2 0 0) : EReal) := by
  pointwise [hdInit, k2_pay1, hdBias]

/-! ## The accumulations as whole sums -/

section
variable (X : Vec Ideal S2x1025x768 .f32) (W : Vec Ideal S32000x768 .f32) (E : Vec Ideal S2x1024x768 .f32) (b : Fin 2) (t : Fin 1024) (d : Fin 768)

/-- Word `n` of the vocabulary (read round after the last). -/
def word (n : ℕ) : Fin 768 → EReal := fun k => W (ix2 ⟨n % 32000, Nat.mod_lt _ (by decide)⟩ k)

theorem acc_at (n : ℕ) :
    (vocAcc (vocX X b.val) W n).1 (ix2 t d) = (∑ v ∈ Finset.range (n * 1280), wt (fun t k => X (ix3 b t k)) (word W v) t * word W v d : EReal)
    ∧ (vocAcc (vocX X b.val) W n).2 (ix2 t 0) = (∑ v ∈ Finset.range (n * 1280), wt (fun t k => X (ix3 b t k)) (word W v) t : EReal) := by
  have hb : ∀ s k, vocX X b.val (ix3 0 s k) = X (ix3 b s k) := fun s k =>
    congrArg X (by rw [show (⟨b.val % 2, Nat.mod_lt _ (by decide)⟩ : Fin 2) = b from Fin.ext (Nat.mod_eq_of_lt b.isLt)]; rfl)
  induction n with
  | zero => exact ⟨by simpa [vocAcc] using zero_at t d, by simpa [vocAcc] using zero'_at t 0⟩
  | succ n ih =>
    refine ⟨(num_at (vocX X b.val) (vocW W n) _ t d).trans ?_, (den_at (vocX X b.val) (vocW W n) _ t 0).trans ?_⟩
    · rw [ih.1, Nat.succ_mul, Finset.sum_range_add, Finset.sum_range (fun x => _) (n := 1280)]
      simp only [hb]; rfl
    · rw [ih.2, Nat.succ_mul, Finset.sum_range_add, Finset.sum_range (fun x => _) (n := 1280)]
      simp only [hb]; rfl

/-- The difference at one index. -/
theorem voc_at : vocArr X W E (ix3 b t d) = (E (ix3 b t d)
    - Ideal.div (∑ v : Fin 32000, wt (fun t k => X (ix3 b t k)) (fun k => W (ix2 v k)) t * W (ix2 v d))
        ((∑ v : Fin 32000, wt (fun t k => X (ix3 b t k)) (fun k => W (ix2 v k)) t) + Ideal.ofBits .f32 0x322BCC77#32) : EReal) := by
  have hw : ∀ v : Fin 32000, word W v.val = fun k => W (ix2 v k) := fun v => funext fun k =>
    congrArg W (by rw [show (⟨v.val % 32000, Nat.mod_lt _ (by decide)⟩ : Fin 32000) = v from Fin.ext (Nat.mod_eq_of_lt v.isLt)])
  have he : vocE E b.val (ix3 0 t d) = E (ix3 b t d) :=
    congrArg E (by rw [show (⟨b.val % 2, Nat.mod_lt _ (by decide)⟩ : Fin 2) = b from Fin.ext (Nat.mod_eq_of_lt b.isLt)]; rfl)
  refine (vout_at (vocE E b.val) (vocAcc (vocX X b.val) W 25).1 (vocAcc (vocX X b.val) W 25).2 t d).trans ?_
  rw [he, (acc_at X W b t d 25).1, (acc_at X W b t d 25).2, show 25 * 1280 = 32000 from rfl, Finset.sum_range, Finset.sum_range]
  simp only [hw]
end

section
variable (D : Vec Ideal S2x1024x768 .f32) (Kt : Vec Ideal S12x1025x1024 .f32) (V : Vec Ideal S12x768x768 .f32) (X : Vec Ideal S2x1025x768 .f32)
  (a : Vec Ideal S1x12 .f32) (β : Vec Ideal S1x1 .f32) (b : Fin 2) (t : Fin 1025) (d : Fin 768)

/-- Head `n`'s part of the update (heads read round after the last). -/
def part (n : ℕ) : EReal := ∑ s : Fin 1024, hdK Kt n (ix3 0 t s) * ((∑ e : Fin 768, D (ix3 b s e) * hdV V n (ix3 0 e d)) * hdA a n)

theorem hacc_at (n : ℕ) : hdAcc (vocE D b.val) Kt V a β n (ix2 t d)
    = ((∑ s : Fin 1024, D (ix3 b s d)) * β (ix2 0 0) + ∑ h ∈ Finset.range n, part D Kt V a b t d h : EReal) := by
  have hb : ∀ s k, vocE D b.val (ix3 0 s k) = D (ix3 b s k) := fun s k =>
    congrArg D (by rw [show (⟨b.val % 2, Nat.mod_lt _ (by decide)⟩ : Fin 2) = b from Fin.ext (Nat.mod_eq_of_lt b.isLt)]; rfl)
  induction n with
  | zero =>
    refine (init_at (vocE D b.val) β t d).trans ?_
    simp only [hb, Finset.range_zero, Finset.sum_empty, add_zero]
  | succ n ih =>
    refine (step_at (vocE D b.val) (hdK Kt n) (hdV V n) (hdA a n) _ t d).trans ?_
    rw [ih, Finset.sum_range_succ, add_assoc]
    simp only [hb]; rfl

/-- The next iterate at one index. -/
theorem hd_at : hdArr D Kt V X a β (ix3 b t d) = (X (ix3 b t d) + ((∑ s : Fin 1024, D (ix3 b s d)) * β (ix2 0 0)
    + ∑ h : Fin 12, ∑ s : Fin 1024, Kt (ix3 h t s) * ((∑ e : Fin 768, D (ix3 b s e) * V (ix3 h e d)) * a (ix2 0 h))) * Ideal.ofBits .f32 0x3A800000#32 : EReal) := by
  have hh : ∀ h : Fin 12, (⟨h.val % 12, Nat.mod_lt _ (by decide)⟩ : Fin 12) = h := fun h => Fin.ext (Nat.mod_eq_of_lt h.isLt)
  have hp : ∀ h : Fin 12, part D Kt V a b t d h.val = ∑ s : Fin 1024, Kt (ix3 h t s) * ((∑ e : Fin 768, D (ix3 b s e) * V (ix3 h e d)) * a (ix2 0 h)) := fun h => by
    unfold part hdK hdV hdA
    simp only [hh]; rfl
  have hx : vocX X b.val (ix3 0 t d) = X (ix3 b t d) :=
    congrArg X (by rw [show (⟨b.val % 2, Nat.mod_lt _ (by decide)⟩ : Fin 2) = b from Fin.ext (Nat.mod_eq_of_lt b.isLt)]; rfl)
  refine (hout_at (vocX X b.val) (hdAcc (vocE D b.val) Kt V a β 12) t d).trans ?_
  rw [hx, hacc_at, Finset.sum_range]
  simp only [hp]
end

/-- One head's table at one index. -/
theorem km_at (P : Vec Ideal S1025x768 .f32) (k q : Vec Ideal S12x768x768 .f32) (h : Fin 12) (x : Fin 1025) (t : Fin 1024) :
    kmArr P k q (ix3 h x t) = (∑ e : Fin 768, (∑ d : Fin 768, P (ix2 x d) * q (ix3 h d e)) * ∑ d : Fin 768, P (ix2 (up t) d) * k (ix3 h d e) : EReal) := by
  have hv : ∀ (V : Vec Ideal S12x768x768 .f32) d e, hdV V h.val (ix3 0 d e) = V (ix3 h d e) := fun V d e =>
    congrArg V (by rw [show (⟨h.val % 12, Nat.mod_lt _ (by decide)⟩ : Fin 12) = h from Fin.ext (Nat.mod_eq_of_lt h.isLt)]; rfl)
  refine (kh_at P (hdV k h.val) (hdV q h.val) x t).trans ?_
  simp only [hv]

/-- One logit. -/
theorem lg_at (x : Vec Ideal S8x768 .f32) (W : Vec Ideal S32000x768 .f32) (b : Fin 8) (v : Fin 32000) :
    lgArr x W (ix2 b v) = (∑ k : Fin 768, x (ix2 b k) * W (ix2 v k) : EReal) := by
  refine (lgp_at x (lgW W (v.val / 3200)) b ⟨v.val % 3200, Nat.mod_lt _ (by decide)⟩).trans (Finset.sum_congr rfl fun k _ => ?_)
  exact congrArg (fun y => x (ix2 b k) * y) (congrArg W (show ix2 (⟨(v.val / 3200 * 3200 + v.val % 3200) % 32000, Nat.mod_lt _ (by decide)⟩ : Fin 32000) k = ix2 v k from
    congrArg (fun z => ix2 z k) (Fin.ext (by show (v.val / 3200 * 3200 + v.val % 3200) % 32000 = v.val; have := v.isLt; omega))))

/-- The two rows the result keeps. -/
theorem rows_at (f : Vec Ideal S2x1025x768 .f32) (b : Fin 2) (k : Fin 768) :
    lastRows f (ix2 (⟨b.val, Nat.lt_of_lt_of_le b.isLt (by decide)⟩ : Fin 8) k) = (f (ix3 b 1024 k) : EReal) := by
  pointwise [lastRows]

theorem result_at (m : (ℓ : Loc nD τ sig) → Buf (Elt Ideal) ℓ) (c : Dev nD) (b : Fin 2) (v : Fin 32000) :
    result m c (ix2 b v) = (∑ k : Fin 768, fs m c 6 (ix3 b 1024 k) * (m ((c : Thread nD τ).loc main_arg1) : Vec Ideal S32000x768 .f32) (ix2 v k) : EReal) := by
  have h : result m c (ix2 b v) = lgs m c (ix2 (⟨b.val, Nat.lt_of_lt_of_le b.isLt (by decide)⟩ : Fin 8) v) := by
    pointwise [result]
  rw [h]
  refine (lg_at _ _ _ v).trans (Finset.sum_congr rfl fun k _ => ?_)
  rw [rows_at]

end Cert.KernelIdeal.Hand

end

end
-- ==== Proof.ReferenceAt.lean ====
/- The reference's trip at one index, over the extended reals. -/
module

public import proofs.«01_k».proof.Proof.Gen.ReferenceIdeal.Run
public import proofs.«01_k».proof.Proof.Gen.ReferenceIdeal.Step
public import Idealize.ShloMosaic.Lib.Pipeline.ValueKit

@[expose] public section

set_option maxRecDepth 16384

noncomputable section

namespace Cert.ReferenceIdeal.Hand

open Idealize.ShloMosaic Idealize.ShloMosaic.TcCoe
open Cert.ReferenceIdeal Cert.ReferenceIdeal.Gen Cert.ReferenceIdeal.Step

/-- Position `t` of the sequence among the iterate's rows. -/
def up (t : Fin 1024) : Fin 1025 := ⟨t.val, Nat.lt_succ_of_lt t.isLt⟩

/-- The weight of one word at one position. -/
def wt (f : Fin 1025 → Fin 768 → EReal) (w : Fin 768 → EReal) (t : Fin 1024) : EReal := Ideal.exp (∑ k, f (up t) k * w k)

variable (j : ℕ) (s : State Ideal)

/-- The difference at one index. -/
theorem diff_at (b : Fin 2) (t : Fin 1024) (d : Fin 768) : b12 j s (ix3 b t d) = (s.main_v7_1 (ix3 b t d)
    - Ideal.div (∑ v : Fin 32000, wt (fun t k => s.main_v7_7 (ix3 b t k)) (fun k => s.main_v7_0 (ix2 v k)) t * s.main_v7_0 (ix2 v d))
        ((∑ v : Fin 32000, wt (fun t k => s.main_v7_7 (ix3 b t k)) (fun k => s.main_v7_0 (ix2 v k)) t) + Ideal.ofBits .f32 0x322BCC77#32) : EReal) := by
  pointwise [b0, b1, b2, b3, b4, b5, b6, b7, b8, b9, b10, b11, b12]
  rfl

/-- The next iterate at one index. -/
theorem trip_at (b : Fin 2) (t : Fin 1025) (d : Fin 768) : b30 j s (ix3 b t d) = (s.main_v7_7 (ix3 b t d)
    + ((∑ h : Fin 12, ∑ x : Fin 1024, (∑ e : Fin 768, s.main_v7_2 (ix3 h e d) * b12 j s (ix3 b x e)) * s.main_v7_3 (ix3 h 0 0) * s.main_v7_4 (ix3 h t x))
      + ∑ x : Fin 1024, b12 j s (ix3 b x d) * s.main_v7_5 (ix3 0 0 0)) * Ideal.ofBits .f32 0x3A800000#32 : EReal) := by
  pointwise [b13, b14, b15, b16, b17, b18, b19, b20, b21, b22, b23, b24, b25, b26, b27, b28, b29, b30]

/-- One head's table at one index. -/
theorem table_at (p : (⟨S1025x768, .f32⟩ : BufTy).Contents (Elt Ideal)) (k q : (⟨S12x768x768, .f32⟩ : BufTy).Contents (Elt Ideal)) (h : Fin 12) (x : Fin 1025) (t : Fin 1024) :
    (A_main_v5 p k q : FVec Ideal S12x1025x1024 .f32) (ix3 h x t) = (∑ e : Fin 768, (∑ d : Fin 768, q (ix3 h d e) * p (ix2 x d)) * ∑ d : Fin 768, k (ix3 h d e) * p (ix2 (up t) d) : EReal) := by
  pointwise [A_main_v0, A_main_v1, A_main_v2, A_main_v3, A_main_v4, A_main_v5]
  rfl

/-- One logit. -/
theorem logit_at (W : (⟨S32000x768, .f32⟩ : BufTy).Contents (Elt Ideal)) (b : Fin 2) (v : Fin 32000) :
    R_main_v11 s W (ix2 b v) = (∑ k : Fin 768, s.main_v7_7 (ix3 b 1024 k) * W (ix2 v k) : EReal) := by
  pointwise [R_main_v11]

/-- The first iterate. -/
theorem zero_at (i : S2x1025x768.Idx) : K_main_v6 (F := Ideal) i = (0 : EReal) := by
  pointwise [K_main_v6, K_main_cst]

end Cert.ReferenceIdeal.Hand

end

end
-- ==== Proof.Equation.lean ====
/- The two programs compute the same: on real arguments a trip of the kernel is a trip of the reference, so the iterates
   agree, and so do the logits. -/
module

public import proofs.«01_k».proof.Proof.KernelAt
public import proofs.«01_k».proof.Proof.ReferenceAt
public import proofs.«01_k».proof.Proof.Reals

@[expose] public section

set_option maxRecDepth 16384

noncomputable section

namespace Cert.Equation

open Idealize.ShloMosaic Idealize.ShloMosaic.TcCoe Cert.Reals
open Cert.KernelIdeal Cert.KernelIdeal.Hand
open Cert.ReferenceIdeal.Step (State b12 b30 A_main_v5)

/-- The arguments both programs read. -/
structure Args where
  e : FVec Ideal S2x1024x768 .f32
  we : FVec Ideal S32000x768 .f32
  p : FVec Ideal S1025x768 .f32
  k : FVec Ideal S12x768x768 .f32
  q : FVec Ideal S12x768x768 .f32
  v : FVec Ideal S12x768x768 .f32
  a : FVec Ideal S12x1x1 .f32
  b : FVec Ideal S1x1x1 .f32

/-- Every element is a real number. -/
structure Args.Real (x : Args) : Prop where
  e : ∀ i, IsR (x.e i)
  we : ∀ i, IsR (x.we i)
  p : ∀ i, IsR (x.p i)
  k : ∀ i, IsR (x.k i)
  q : ∀ i, IsR (x.q i)
  v : ∀ i, IsR (x.v i)
  a : ∀ i, IsR (x.a i)
  b : ∀ i, IsR (x.b i)

variable (x : Args)

/-- The reference's state with the iterate `f`. -/
def st (f : FVec Ideal S2x1025x768 .f32) : State Ideal where
  main_v7_7 := f
  main_v7_0 := x.we
  main_v7_1 := x.e
  main_v7_2 := x.v
  main_v7_3 := x.a
  main_v7_4 := A_main_v5 (F := Ideal) x.p x.k x.q
  main_v7_5 := x.b

/-- The kernel's trip from the iterate `f`. -/
def trip (f : FVec Ideal S2x1025x768 .f32) : FVec Ideal S2x1025x768 .f32 :=
  hdArr (F := Ideal) (vocArr (F := Ideal) f x.we x.e) (kmArr (F := Ideal) x.p x.k x.q) x.v f (shapeCast S1x12 x.a Gen.shapeCasts_S12x1x1_S1x12) (shapeCast S1x1 x.b Gen.shapeCasts_S1x1x1_S1x1)

variable {x}
variable (h : x.Real) (f : FVec Ideal S2x1025x768 .f32) (hf : ∀ i, IsR (f i)) (j : ℕ)
include h hf

/-- The differences are real numbers. -/
theorem diff_isR (b : Fin 2) (t : Fin 1024) (d : Fin 768) : IsR (b12 j (st x f) (ix3 b t d)) := by
  have hw : ∀ v : Fin 32000, IsN (Cert.ReferenceIdeal.Hand.wt (fun t k => f (ix3 b t k)) (fun k => x.we (ix2 v k)) t) := fun v =>
    (IsR.sum _ _ fun k => (hf _).mul (h.we _)).exp
  rw [Cert.ReferenceIdeal.Hand.diff_at]
  exact (h.e _).sub ((IsR.sum _ _ fun v => (hw v).isR.mul (h.we _)).div (IsN.sum _ _ hw))

/-- The next iterate is made of real numbers. -/
theorem trip_isR_at (b : Fin 2) (t : Fin 1025) (d : Fin 768) : IsR (b30 j (st x f) (ix3 b t d)) := by
  rw [Cert.ReferenceIdeal.Hand.trip_at]
  have hk : ∀ (a : Fin 12) (t : Fin 1025) (s : Fin 1024), IsR ((A_main_v5 (F := Ideal) x.p x.k x.q : FVec Ideal S12x1025x1024 .f32) (ix3 a t s)) := fun a t s => by
    rw [Cert.ReferenceIdeal.Hand.table_at]
    exact IsR.sum _ _ fun e => (IsR.sum _ _ fun d => (h.q _).mul (h.p _)).mul (IsR.sum _ _ fun d => (h.k _).mul (h.p _))
  exact (hf _).add (((IsR.sum _ _ fun a => IsR.sum _ _ fun s => ((IsR.sum _ _ fun e => (h.v _).mul (diff_isR h f hf j _ _ _)).mul (h.a _)).mul (hk _ _ _)).add
    (IsR.sum _ _ fun s => (diff_isR h f hf j _ _ _).mul (h.b _))).mul inv_isR)

theorem trip_isR (i : S2x1025x768.Idx) : IsR (b30 j (st x f) i) :=
  (congrArg (fun z => IsR (b30 j (st x f) z)) (eq_ix3 i)).mpr (trip_isR_at h f hf j (i 0) (i 1) (i 2))

/-- One trip of the kernel is one trip of the reference. -/
theorem trip_eq : trip x f = (b30 j (st x f) : FVec Ideal S2x1025x768 .f32) := by
  have hD : ∀ (b : Fin 2) (t : Fin 1024) (d : Fin 768), vocArr (F := Ideal) f x.we x.e (ix3 b t d) = (b12 j (st x f) (ix3 b t d) : EReal) := fun b t d =>
    (voc_at f x.we x.e b t d).trans (Cert.ReferenceIdeal.Hand.diff_at j (st x f) b t d).symm
  have hT : ∀ (a : Fin 12) (t : Fin 1025) (s : Fin 1024), kmArr (F := Ideal) x.p x.k x.q (ix3 a t s) = ((A_main_v5 (F := Ideal) x.p x.k x.q : FVec Ideal S12x1025x1024 .f32) (ix3 a t s) : EReal) := fun a t s => by
    refine (km_at x.p x.k x.q a t s).trans (Eq.trans ?_ (Cert.ReferenceIdeal.Hand.table_at x.p x.k x.q a t s).symm)
    exact Finset.sum_congr rfl fun e _ => congrArg₂ (fun y z : EReal => y * z)
      (Finset.sum_congr rfl fun d _ => mul_comm _ _) (Finset.sum_congr rfl fun d _ => mul_comm _ _)
  have hA : ∀ a : Fin 12, shapeCast S1x12 x.a Gen.shapeCasts_S12x1x1_S1x12 (ix2 0 a) = x.a (ix3 a 0 0) := fun a => by pointwise []
  have hB : shapeCast S1x1 x.b Gen.shapeCasts_S1x1x1_S1x1 (ix2 0 0) = x.b (ix3 0 0 0) := by pointwise []
  suffices H : ∀ (b : Fin 2) (t : Fin 1025) (d : Fin 768), trip x f (ix3 b t d) = (b30 j (st x f) : FVec Ideal S2x1025x768 .f32) (ix3 b t d) from
    funext fun i => (congrArg (fun z => trip x f z = (b30 j (st x f) : FVec Ideal S2x1025x768 .f32) z) (eq_ix3 i)).mpr (H (i 0) (i 1) (i 2))
  intro b t d
  refine (hd_at _ _ _ _ _ _ b t d).trans (Eq.trans ?_ (Cert.ReferenceIdeal.Hand.trip_at j (st x f) b t d).symm)
  refine congrArg (fun y : EReal => f (ix3 b t d) + y * Ideal.ofBits .f32 0x3A800000#32) ((add_comm _ _).trans (congrArg₂ (fun y z : EReal => y + z) ?_ ?_))
  · refine Finset.sum_congr rfl fun a _ => Finset.sum_congr rfl fun s _ => (mul_comm _ _).trans (congrArg₂ (fun y z : EReal => y * z)
      (congrArg₂ (fun y z : EReal => y * z) (Finset.sum_congr rfl fun e _ => ?_) (hA a)) (hT a t s))
    rw [hD]; exact mul_comm _ _
  · rw [hB]
    simp only [hD]
    exact IsR.sum_mul _ _ (fun s => diff_isR h f hf j b s d) (h.b _)

section
omit h hf
variable (m : (ℓ : Loc nD τ sig) → Buf (Elt Ideal) ℓ) (c : Dev nD)

/-- The arguments in the kernel's memory. -/
def args : Args where
  e := m ((c : Thread nD τ).loc main_arg0)
  we := m ((c : Thread nD τ).loc main_arg1)
  p := m ((c : Thread nD τ).loc main_arg2)
  k := m ((c : Thread nD τ).loc main_arg3)
  q := m ((c : Thread nD τ).loc main_arg4)
  v := m ((c : Thread nD τ).loc main_arg5)
  a := m ((c : Thread nD τ).loc main_arg6)
  b := m ((c : Thread nD τ).loc main_arg7)

variable (hm : (args m c).Real)

theorem fs_trip (n : ℕ) : fs m c (n + 1) = trip (args m c) (fs m c n) := rfl

include hm in
/-- Every iterate is made of real numbers. -/
theorem fs_isR : ∀ (n : ℕ) (i : S2x1025x768.Idx), IsR (fs m c n i)
  | 0, i => ⟨0, Cert.ReferenceIdeal.Hand.zero_at i⟩
  | n + 1, i => by
    rw [fs_trip, trip_eq hm _ (fs_isR n) n]
    exact trip_isR hm _ (fs_isR n) n i

include hm in
/-- The kernel's iterates are the states of the reference's loop. -/
theorem st_step (n : ℕ) : st (args m c) (fs m c (n + 1)) = Cert.ReferenceIdeal.Step.step n (st (args m c) (fs m c n)) := by
  rw [fs_trip, trip_eq hm _ (fs_isR m c hm n) n]; rfl

/-- The kernel's result is the reference's. -/
theorem result_eq : result m c = (Cert.ReferenceIdeal.Step.R_main_v11 (F := Ideal) (st (args m c) (fs m c 6)) (args m c).we : FVec Ideal S2x32000 .f32) :=
  funext fun i => (congrArg (fun z => result m c z = (Cert.ReferenceIdeal.Step.R_main_v11 (F := Ideal) (st (args m c) (fs m c 6)) (args m c).we : FVec Ideal S2x32000 .f32) z) (eq_ix2 i)).mpr
    ((result_at m c (i 0) (i 1)).trans (Cert.ReferenceIdeal.Hand.logit_at (st (args m c) (fs m c 6)) (args m c).we (i 0) (i 1)).symm)
end

end Cert.Equation

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Result
public import proofs.«01_k».proof.Proof.K.Result
public import proofs.«01_k».proof.Proof.Finite
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed ends with its arguments as launched and every counter at zero. -/
theorem frame_Kernel : Cert.quiescent_Kernel (hKernel := Cert.Kernel.Gen.facts) := fun m g _ =>
  letI := Cert.Kernel.Gen.facts
  (θ_run Cert.Kernel.defs _ _).mono
    (fun r h => ⟨fun c => by
      obtain ⟨h0, h1, h2, h3, h4, h5, h6, h7, _⟩ := h.1 c
      exact ⟨h0, h1, h2, h3, h4, h5, h6, h7⟩, h.2⟩)
    (Cert.Kernel.Hand.run_value (F := Bits) (m := m) (ρ := g) (Cert.Kernel.Hand.leaves m))

/-- The same of the ideal kernel. -/
theorem frame_KernelIdeal : Cert.quiescent_KernelIdeal (hKernelIdeal := Cert.KernelIdeal.Gen.facts) := fun m g _ =>
  letI := Cert.KernelIdeal.Gen.facts
  (θ_run Cert.KernelIdeal.defs _ _).mono
    (fun r h => ⟨fun c => by
      obtain ⟨h0, h1, h2, h3, h4, h5, h6, h7, _⟩ := h.1 c
      exact ⟨h0, h1, h2, h3, h4, h5, h6, h7⟩, h.2⟩)
    (Cert.KernelIdeal.Hand.run_value (F := Ideal) (m := m) (ρ := g) (Cert.KernelIdeal.Hand.leaves m))

/-- The same of the ideal reference. -/
theorem frame_ReferenceIdeal : Cert.quiescent_ReferenceIdeal (hReferenceIdeal := Cert.ReferenceIdeal.Gen.facts) := fun m g _ =>
  letI := Cert.ReferenceIdeal.Gen.facts
  (θ_run Cert.ReferenceIdeal.defs _ _).mono
    (fun r h => ⟨fun c => (h c).2, sem_eq_zero_of_no_sems (by decide) r.2⟩)
    (Cert.ReferenceIdeal.StepRun.run_iter (F := Ideal) m g (fun c n => Nat.rec (Cert.ReferenceIdeal.StepRun.initState m c) (fun k s => Cert.ReferenceIdeal.Step.step k s) n)
      (fun _ => rfl) (fun _ _ => rfl))

/-- On finite arguments the arguments of the kernel are real numbers. -/
theorem real_of_finite (m : (ℓ : Loc Cert.KernelIdeal.nD Cert.KernelIdeal.τ Cert.KernelIdeal.sig) → Buf (Elt Ideal) ℓ)
    (h : Cert.Pre_KernelIdeal_finite (hPre_finite := Cert.Pre_finite.Hand.facts) m) (c : Dev Cert.KernelIdeal.nD) :
    (Cert.Equation.args m c).Real := by
  letI := Cert.Pre_finite.Hand.facts
  obtain ⟨h0, h1, h2, h3, h4, h5, h6, h7⟩ := Cert.Pre_finite.Hand.reads _ _ _ _ _ _ _ _ (h c)
  exact ⟨h0, h1, h2, h3, h4, h5, h6, h7⟩

/-- Kernel and reference compute the same logits. -/
theorem value : Cert.algebraic_KernelIdeal_ReferenceIdeal_pre_finite (hKernelIdeal := Cert.KernelIdeal.Gen.facts)
    (hReferenceIdeal := Cert.ReferenceIdeal.Gen.facts) (hPre_finite := Cert.Pre_finite.Hand.facts) := by
  letI := Cert.KernelIdeal.Gen.facts
  letI := Cert.ReferenceIdeal.Gen.facts
  intro m g m' g' hpre hagree
  have hr := real_of_finite m hpre
  refine ⟨fun c => Cert.KernelIdeal.Hand.result m c, ?_, ?_⟩
  · refine (θ_run Cert.KernelIdeal.defs _ _).mono (fun r h c => ?_)
      (Cert.KernelIdeal.Hand.run_value (F := Ideal) (m := m) (ρ := g) (Cert.KernelIdeal.Hand.leaves m))
    obtain ⟨h0, h1, h2, h3, h4, h5, h6, h7, hv⟩ := h.1 c
    exact ⟨hv.trans (Cert.KernelIdeal.Hand.result_eq m c), h0, h1, h2, h3, h4, h5, h6, h7⟩
  · refine (θ_run Cert.ReferenceIdeal.defs _ _).mono (fun r h c => ?_)
      (Cert.ReferenceIdeal.StepRun.run_iter (F := Ideal) m' g'
        (fun c n => Cert.Equation.st (Cert.Equation.args m c) (Cert.KernelIdeal.Hand.fs m c n))
        (fun c => ?_) (fun c n => Cert.Equation.st_step m c (hr c) n))
    · obtain ⟨hv, hrest⟩ := h c
      refine ⟨hv.trans ?_, hrest⟩
      rw [(hagree c).2.1]
      exact (Cert.Equation.result_eq m c).symm
    · obtain ⟨h0, h1, h2, h3, h4, h5, h6, h7⟩ := hagree c
      unfold Cert.ReferenceIdeal.StepRun.initState
      rw [h0, h1, h2, h3, h4, h5, h6, h7]
      rfl

theorem claim : Cert.Claim :=
  ⟨Cert.Kernel.Gen.facts, Cert.KernelIdeal.Gen.facts, Cert.ReferenceIdeal.Gen.facts, Cert.Pre_finite.Hand.facts,
    frame_Kernel, frame_KernelIdeal, fun m g _ => frame_KernelIdeal m g trivial, frame_ReferenceIdeal,
    fun m g _ => frame_ReferenceIdeal m g trivial, trivial, value⟩

end Cert.Proof

end
